-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v47) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v18) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v45)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v45) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v103) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S33792x6656 : Shape := ⟨2, ![33792, 6656]⟩
abbrev S33792x512 : Shape := ⟨2, ![33792, 512]⟩
abbrev S_ : Shape := ⟨0, ![]⟩

class Facts : Prop where
  slices_S33792x6656_S33792x512_0_3072 : S33792x6656.Slices ![0, 3072] S33792x512
  bitsLt_bf16_f32 : FTy.bits .bf16 < FTy.bits .f32
  bcast_S_S33792x512 : S_.BroadcastsInDim S33792x512 (![] : Fin 0 → Fin S33792x512.rank)

variable [Facts]

def fn {F : FTy → Type} [FloatOps F] (main_arg0 : FVec F S33792x6656 .bf16) : IVec S33792x512 1 :=
  let main_v0 : FVec F S33792x512 .bf16 := (extractStridedSlice S33792x512 ![0, 3072] · slices_S33792x6656_S33792x512_0_3072) main_arg0
  let main_v1 : FVec F S33792x512 .f32 := (extf .f32 · bitsLt_bf16_f32) main_v0
  let main_v2 : FVec F S33792x512 .f32 := subf main_v1 main_v1
  let main_cst : FVec F S_ .f32 := constant S_ .f32 0x00000000#32
  let main_v3 : FVec F S33792x512 .f32 := broadcastInDim S33792x512 ![] bcast_S_S33792x512 main_cst
  let main_v4 : IVec S33792x512 1 := cmpf .oeq main_v2 main_v3
  main_v4
-- ==== Kernel.lean ====
abbrev S33792x6656 : Shape := ⟨2, ![33792, 6656]⟩
abbrev S33792x256 : Shape := ⟨2, ![33792, 256]⟩
abbrev S384x128 : Shape := ⟨2, ![384, 128]⟩
abbrev S4224x128 : Shape := ⟨2, ![4224, 128]⟩
abbrev S1x128 : Shape := ⟨2, ![1, 128]⟩
abbrev S384x384 : Shape := ⟨2, ![384, 384]⟩
abbrev S1x384 : Shape := ⟨2, ![1, 384]⟩
abbrev S128x384 : Shape := ⟨2, ![128, 384]⟩
abbrev S384 : Shape := ⟨1, ![384]⟩

abbrev nBuf : Space → Nat
  | .hbm => 2
  | .vmem => 8
  | .smem => 0
  | _ => 0

abbrev bufTy : (tb : Table) → Fin (tcTables nBuf tb) → BufTy
  | .hbm, ⟨0, _⟩ => ⟨S33792x6656, .bf16⟩
  | .hbm, ⟨1, _⟩ => ⟨S33792x256, .bf16⟩
  | .local _ .vmem, ⟨0, _⟩ => ⟨S384x128, .bf16⟩
  | .local _ .vmem, ⟨1, _⟩ => ⟨S384x128, .bf16⟩
  | .local _ .vmem, ⟨2, _⟩ => ⟨S4224x128, .bf16⟩
  | .local _ .vmem, ⟨3, _⟩ => ⟨S4224x128, .bf16⟩
  | .local _ .vmem, ⟨4, _⟩ => ⟨S4224x128, .bf16⟩
  | .local _ .vmem, ⟨5, _⟩ => ⟨S4224x128, .bf16⟩
  | .local _ .vmem, ⟨6, _⟩ => ⟨S384x128, .bf16⟩
  | .local _ .vmem, ⟨7, _⟩ => ⟨S384x128, .bf16⟩
  | _, _ => ⟨S33792x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 11], ![false, false, false]⟩

def k0_mult1 (i : grid0.Coords) : BitVec 32 :=
  let arg2 : BitVec 32 := BitVec.ofNat 32 (i 2).val
  let c384_i32 : BitVec 32 := 384#32
  let v20 : BitVec 32 := Scalar.muli arg2 c384_i32
  v20
def k0_off1 (i : grid0.Coords) : Fin 2 → Nat :=
  let arg2 : BitVec 32 := BitVec.ofNat 32 (i 2).val
  let c384_i32 : BitVec 32 := 384#32
  let v20 : BitVec 32 := Scalar.muli arg2 c384_i32
  let v21 : BitVec 32 := v20
  let v22 : Index := Scalar.indexCast v21
  let c0_3 : Index := 0#32
  ![v22.toNat, 0]
@[reducible] def k0_t1_loop (i : grid0.Coords) : Scf.Loop 32 :=
  let c0_i32 : BitVec 32 := 0#32
  let arg2 : BitVec 32 := BitVec.ofNat 32 (i 2).val
  let v98 : BitVec 32 := Scalar.subi arg2 c0_i32
  let c1_i32 : BitVec 32 := 1#32
  let v100 : BitVec 32 := Scalar.divsi v98 c1_i32
  let v101 : BitVec 32 := Scalar.muli v100 c1_i32
  let v102 : BitVec 32 := Scalar.addi c0_i32 v101
  let c1_i32_23 : BitVec 32 := 1#32
  ⟨c0_i32, v102, c1_i32_23⟩
def k0_mult2 (i : grid0.Coords) (k0_t1 : Fin (k0_t1_loop i).trips) : BitVec 32 :=
  let arg2 : BitVec 32 := BitVec.ofNat 32 (i 2).val
  let c1_i32_27 : BitVec 32 := 1#32
  let v108 : BitVec 32 := Scalar.subi arg2 c1_i32_27
  let c0_i32 : BitVec 32 := 0#32
  let c1_i32_23 : BitVec 32 := 1#32
  let arg7 : BitVec 32 := Scf.iv c0_i32 c1_i32_23 k0_t1
  let v109 : BitVec 32 := Scalar.subi v108 arg7
  let c384_i32_28 : BitVec 32 := 384#32
  let v110 : BitVec 32 := Scalar.muli v109 c384_i32_28
  v110
def k0_off2 (i : grid0.Coords) (k0_t1 : Fin (k0_t1_loop i).trips) : Fin 2 → Nat :=
  let arg2 : BitVec 32 := BitVec.ofNat 32 (i 2).val
  let c1_i32_27 : BitVec 32 := 1#32
  let v108 : BitVec 32 := Scalar.subi arg2 c1_i32_27
  let c0_i32 : BitVec 32 := 0#32
  let c1_i32_23 : BitVec 32 := 1#32
  let arg7 : BitVec 32 := Scf.iv c0_i32 c1_i32_23 k0_t1
  let v109 : BitVec 32 := Scalar.subi v108 arg7
  let c384_i32_28 : BitVec 32 := 384#32
  let v110 : BitVec 32 := Scalar.muli v109 c384_i32_28
  let v111 : BitVec 32 := v110
  let v112 : Index := Scalar.indexCast v111
  let c0_29 : Index := 0#32
  ![v112.toNat, 0]
@[reducible] def k0_t2_loop (i : grid0.Coords) : Scf.Loop 32 :=
  let c0_i32 : BitVec 32 := 0#32
  let arg2 : BitVec 32 := BitVec.ofNat 32 (i 2).val
  let v98 : BitVec 32 := Scalar.subi arg2 c0_i32
  let c1_i32 : BitVec 32 := 1#32
  let v100 : BitVec 32 := Scalar.divsi v98 c1_i32
  let v101 : BitVec 32 := Scalar.muli v100 c1_i32
  let v102 : BitVec 32 := Scalar.addi c0_i32 v101
  let v99 : BitVec 32 := Scalar.addi c0_i32 v98
  let c1_i32_24 : BitVec 32 := 1#32
  ⟨v102, v99, c1_i32_24⟩
def k0_mult3 (i : grid0.Coords) (k0_t2 : Fin (k0_t2_loop i).trips) : BitVec 32 :=
  let arg2 : BitVec 32 := BitVec.ofNat 32 (i 2).val
  let c1_i32_27 : BitVec 32 := 1#32
  let v108 : BitVec 32 := Scalar.subi arg2 c1_i32_27
  let c0_i32 : BitVec 32 := 0#32
  let v98 : BitVec 32 := Scalar.subi arg2 c0_i32
  let c1_i32 : BitVec 32 := 1#32
  let v100 : BitVec 32 := Scalar.divsi v98 c1_i32
  let v101 : BitVec 32 := Scalar.muli v100 c1_i32
  let v102 : BitVec 32 := Scalar.addi c0_i32 v101
  let c1_i32_24 : BitVec 32 := 1#32
  let arg7 : BitVec 32 := Scf.iv v102 c1_i32_24 k0_t2
  let v109 : BitVec 32 := Scalar.subi v108 arg7
  let c384_i32_28 : BitVec 32 := 384#32
  let v110 : BitVec 32 := Scalar.muli v109 c384_i32_28
  v110
def k0_off3 (i : grid0.Coords) (k0_t2 : Fin (k0_t2_loop i).trips) : Fin 2 → Nat :=
  let arg2 : BitVec 32 := BitVec.ofNat 32 (i 2).val
  let c1_i32_27 : BitVec 32 := 1#32
  let v108 : BitVec 32 := Scalar.subi arg2 c1_i32_27
  let c0_i32 : BitVec 32 := 0#32
  let v98 : BitVec 32 := Scalar.subi arg2 c0_i32
  let c1_i32 : BitVec 32 := 1#32
  let v100 : BitVec 32 := Scalar.divsi v98 c1_i32
  let v101 : BitVec 32 := Scalar.muli v100 c1_i32
  let v102 : BitVec 32 := Scalar.addi c0_i32 v101
  let c1_i32_24 : BitVec 32 := 1#32
  let arg7 : BitVec 32 := Scf.iv v102 c1_i32_24 k0_t2
  let v109 : BitVec 32 := Scalar.subi v108 arg7
  let c384_i32_28 : BitVec 32 := 384#32
  let v110 : BitVec 32 := Scalar.muli v109 c384_i32_28
  let v111 : BitVec 32 := v110
  let v112 : Index := Scalar.indexCast v111
  let c0_29 : Index := 0#32
  ![v112.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.muli arg0 c11_i32
  let v1 : BitVec 32 := Scalar.addi v0 arg2
  let c24_i32 : BitVec 32 := 24#32
  let v2 : BitVec 32 := Scalar.addi c24_i32 arg1
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c26_i32 : BitVec 32 := 26#32
  let v0 : BitVec 32 := Scalar.addi c26_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c28_i32 : BitVec 32 := 28#32
  let v0 : BitVec 32 := Scalar.addi c28_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.muli arg0 c11_i32
  let v1 : BitVec 32 := Scalar.addi v0 arg2
  let c0_i32 : BitVec 32 := 0#32
  ![v1.toNat, arg1.toNat]

abbrev stage0_0 : Fin 2 → Memref sig .tc .vmem S384x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4224x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4224x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S384x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S33792x6656 : Shape := ⟨2, ![33792, 6656]⟩
abbrev S8x4224x6656 : Shape := ⟨3, ![8, 4224, 6656]⟩
abbrev S8x4224x256 : Shape := ⟨3, ![8, 4224, 256]⟩
abbrev S8x4224x4x64 : Shape := ⟨4, ![8, 4224, 4, 64]⟩
abbrev S4224 : Shape := ⟨1, ![4224]⟩
abbrev S8x4x4224x4224 : Shape := ⟨4, ![8, 4, 4224, 4224]⟩
abbrev S1x4224 : Shape := ⟨2, ![1, 4224]⟩
abbrev S4224x1 : Shape := ⟨2, ![4224, 1]⟩
abbrev S4224x4224 : Shape := ⟨2, ![4224, 4224]⟩
abbrev S_ : Shape := ⟨0, ![]⟩
abbrev S8x4x64x4224 : Shape := ⟨4, ![8, 4, 64, 4224]⟩
abbrev S33792x256 : Shape := ⟨2, ![33792, 256]⟩

abbrev nBuf : Space → Nat
  | .hbm => 69
  | .vmem => 0
  | .smem => 0
  | _ => 0

abbrev bufTy : (tb : Table) → Fin (tcTables nBuf tb) → BufTy
  | .hbm, ⟨0, _⟩ => ⟨S33792x6656, .bf16⟩
  | .hbm, ⟨1, _⟩ => ⟨S33792x6656, .f32⟩
  | .hbm, ⟨2, _⟩ => ⟨S8x4224x6656, .f32⟩
  | .hbm, ⟨3, _⟩ => ⟨S8x4224x256, .f32⟩
  | .hbm, ⟨4, _⟩ => ⟨S8x4224x4x64, .f32⟩
  | .hbm, ⟨5, _⟩ => ⟨S8x4224x256, .f32⟩
  | .hbm, ⟨6, _⟩ => ⟨S8x4224x4x64, .f32⟩
  | .hbm, ⟨7, _⟩ => ⟨S8x4224x256, .f32⟩
  | .hbm, ⟨8, _⟩ => ⟨S8x4224x4x64, .f32⟩
  | .hbm, ⟨9, _⟩ => ⟨S4224, .i32⟩
  | .hbm, ⟨10, _⟩ => ⟨S8x4x4224x4224, .f32⟩
  | .hbm, ⟨11, _⟩ => ⟨S1x4224, .i32⟩
  | .hbm, ⟨12, _⟩ => ⟨S4224x1, .i32⟩
  | .hbm, ⟨13, _⟩ => ⟨S4224x4224, .i32⟩
  | .hbm, ⟨14, _⟩ => ⟨S4224x4224, .i32⟩
  | .hbm, ⟨15, _⟩ => ⟨S4224x4224, .i1⟩
  | .hbm, ⟨16, _⟩ => ⟨S8x4x4224x4224, .f32⟩
  | .hbm, ⟨17, _⟩ => ⟨S8x4x4224x4224, .f32⟩
  | .hbm, ⟨18, _⟩ => ⟨S_, .f32⟩
  | .hbm, ⟨19, _⟩ => ⟨S8x4x4224x4224, .f32⟩
  | .hbm, ⟨20, _⟩ => ⟨S8x4x4224x4224, .f32⟩
  | .hbm, ⟨21, _⟩ => ⟨S8x4x4224x4224, .f32⟩
  | .hbm, ⟨22, _⟩ => ⟨S8x4x4224x4224, .f32⟩
  | .hbm, ⟨23, _⟩ => ⟨S8x4x4224x4224, .i1⟩
  | .hbm, ⟨24, _⟩ => ⟨S8x4x4224x4224, .f32⟩
  | .hbm, ⟨25, _⟩ => ⟨S8x4x4224x4224, .f32⟩
  | .hbm, ⟨26, _⟩ => ⟨S8x4x4224x4224, .f32⟩
  | .hbm, ⟨27, _⟩ => ⟨S8x4x4224x4224, .f32⟩
  | .hbm, ⟨28, _⟩ => ⟨S8x4x4224x4224, .f32⟩
  | .hbm, ⟨29, _⟩ => ⟨S8x4x4224x4224, .f32⟩
  | .hbm, ⟨30, _⟩ => ⟨S8x4x4224x4224, .f32⟩
  | .hbm, ⟨31, _⟩ => ⟨S8x4x4224x4224, .f32⟩
  | .hbm, ⟨32, _⟩ => ⟨S8x4x4224x4224, .f32⟩
  | .hbm, ⟨33, _⟩ => ⟨S_, .f32⟩
  | .hbm, ⟨34, _⟩ => ⟨S_, .f32⟩
  | .hbm, ⟨35, _⟩ => ⟨S8x4x4224x4224, .i1⟩
  | .hbm, ⟨36, _⟩ => ⟨S8x4x4224x4224, .f32⟩
  | .hbm, ⟨37, _⟩ => ⟨S8x4x4224x4224, .f32⟩
  | .hbm, ⟨38, _⟩ => ⟨S_, .f32⟩
  | .hbm, ⟨39, _⟩ => ⟨S_, .f32⟩
  | .hbm, ⟨40, _⟩ => ⟨S8x4x4224x4224, .f32⟩
  | .hbm, ⟨41, _⟩ => ⟨S8x4x4224x4224, .f32⟩
  | .hbm, ⟨42, _⟩ => ⟨S8x4x4224x4224, .f32⟩
  | .hbm, ⟨43, _⟩ => ⟨S_, .f32⟩
  | .hbm, ⟨44, _⟩ => ⟨S8x4x4224x4224, .f32⟩
  | .hbm, ⟨45, _⟩ => ⟨S8x4x4224x4224, .f32⟩
  | .hbm, ⟨46, _⟩ => ⟨S8x4x4224x4224, .f32⟩
  | .hbm, ⟨47, _⟩ => ⟨S8x4x4224x4224, .f32⟩
  | .hbm, ⟨48, _⟩ => ⟨S8x4x4224x4224, .i1⟩
  | .hbm, ⟨49, _⟩ => ⟨S8x4x4224x4224, .f32⟩
  | .hbm, ⟨50, _⟩ => ⟨S8x4x4224x4224, .f32⟩
  | .hbm, ⟨51, _⟩ => ⟨S8x4x4224x4224, .f32⟩
  | .hbm, ⟨52, _⟩ => ⟨S8x4x4224x4224, .f32⟩
  | .hbm, ⟨53, _⟩ => ⟨S8x4x4224x4224, .f32⟩
  | .hbm, ⟨54, _⟩ => ⟨S8x4x4224x4224, .f32⟩
  | .hbm, ⟨55, _⟩ => ⟨S8x4x4224x4224, .f32⟩
  | .hbm, ⟨56, _⟩ => ⟨S8x4x4224x4224, .f32⟩
  | .hbm, ⟨57, _⟩ => ⟨S8x4x4224x4224, .f32⟩
  | .hbm, ⟨58, _⟩ => ⟨S8x4x4224x4224, .f32⟩
  | .hbm, ⟨59, _⟩ => ⟨S8x4x4224x4224, .f32⟩
  | .hbm, ⟨60, _⟩ => ⟨S_, .f32⟩
  | .hbm, ⟨61, _⟩ => ⟨S_, .f32⟩
  | .hbm, ⟨62, _⟩ => ⟨S8x4x4224x4224, .i1⟩
  | .hbm, ⟨63, _⟩ => ⟨S8x4x4224x4224, .f32⟩
  | .hbm, ⟨64, _⟩ => ⟨S8x4x4224x4224, .f32⟩
  | .hbm, ⟨65, _⟩ => ⟨S8x4x64x4224, .f32⟩
  | .hbm, ⟨66, _⟩ => ⟨S8x4224x4x64, .f32⟩
  | .hbm, ⟨67, _⟩ => ⟨S33792x256, .f32⟩
  | .hbm, ⟨68, _⟩ => ⟨S33792x256, .bf16⟩
  | _, _ => ⟨S33792x6656, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_call0_v0 : Ref sig .tc := ⟨.hbm, 17, rfl⟩
abbrev main_call0_call0_cst : Ref sig .tc := ⟨.hbm, 18, rfl⟩
abbrev main_call0_call0_v0 : Ref sig .tc := ⟨.hbm, 19, rfl⟩
abbrev main_call0_call0_v1 : Ref sig .tc := ⟨.hbm, 20, rfl⟩
abbrev main_call0_call0_v2 : Ref sig .tc := ⟨.hbm, 21, rfl⟩
abbrev main_call0_call0_v3 : Ref sig .tc := ⟨.hbm, 22, rfl⟩
abbrev main_call0_call0_v4 : Ref sig .tc := ⟨.hbm, 23, rfl⟩
abbrev main_call0_call0_v5 : Ref sig .tc := ⟨.hbm, 24, rfl⟩
abbrev main_call0_call0_v6 : Ref sig .tc := ⟨.hbm, 25, rfl⟩
abbrev main_call0_call0_v7 : Ref sig .tc := ⟨.hbm, 26, rfl⟩
abbrev main_call0_call0_v8 : Ref sig .tc := ⟨.hbm, 27, rfl⟩
abbrev main_call0_call0_v9 : Ref sig .tc := ⟨.hbm, 28, rfl⟩
abbrev main_call0_call0_v10 : Ref sig .tc := ⟨.hbm, 29, rfl⟩
abbrev main_call0_call0_v11 : Ref sig .tc := ⟨.hbm, 30, rfl⟩
abbrev main_call0_v1 : Ref sig .tc := ⟨.hbm, 31, rfl⟩
abbrev main_v16 : Ref sig .tc := ⟨.hbm, 32, rfl⟩
abbrev main_cst : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v17 : Ref sig .tc := ⟨.hbm, 37, rfl⟩
abbrev main_call2_cst : Ref sig .tc := ⟨.hbm, 38, rfl⟩
abbrev main_call2_v0 : Ref sig .tc := ⟨.hbm, 39, rfl⟩
abbrev main_v18 : Ref sig .tc := ⟨.hbm, 40, rfl⟩
abbrev main_v19 : Ref sig .tc := ⟨.hbm, 41, rfl⟩
abbrev main_call3_v0 : Ref sig .tc := ⟨.hbm, 42, rfl⟩
abbrev main_call3_call0_cst : Ref sig .tc := ⟨.hbm, 43, rfl⟩
abbrev main_call3_call0_v0 : Ref sig .tc := ⟨.hbm, 44, rfl⟩
abbrev main_call3_call0_v1 : Ref sig .tc := ⟨.hbm, 45, rfl⟩
abbrev main_call3_call0_v2 : Ref sig .tc := ⟨.hbm, 46, rfl⟩
abbrev main_call3_call0_v3 : Ref sig .tc := ⟨.hbm, 47, rfl⟩
abbrev main_call3_call0_v4 : Ref sig .tc := ⟨.hbm, 48, rfl⟩
abbrev main_call3_call0_v5 : Ref sig .tc := ⟨.hbm, 49, rfl⟩
abbrev main_call3_call0_v6 : Ref sig .tc := ⟨.hbm, 50, rfl⟩
abbrev main_call3_call0_v7 : Ref sig .tc := ⟨.hbm, 51, rfl⟩
abbrev main_call3_call0_v8 : Ref sig .tc := ⟨.hbm, 52, rfl⟩
abbrev main_call3_call0_v9 : Ref sig .tc := ⟨.hbm, 53, rfl⟩
abbrev main_call3_call0_v10 : Ref sig .tc := ⟨.hbm, 54, rfl⟩
abbrev main_call3_call0_v11 : Ref sig .tc := ⟨.hbm, 55, rfl⟩
abbrev main_call3_v1 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_cst_0 : Ref sig .tc := ⟨.hbm, 60, rfl⟩
abbrev main_call4_v0 : Ref sig .tc := ⟨.hbm, 61, rfl⟩
abbrev main_call4_v1 : Ref sig .tc := ⟨.hbm, 62, rfl⟩
abbrev main_call4_v2 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩

abbrev nD : Nat := 1
abbrev τ : Topo := Topo.v7x

variable {F : FTy → Type} [FloatOps F]
-- ==== Kernel2.lean ====
abbrev S33792x1024 : Shape := ⟨2, ![33792, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S1x1024 : Shape := ⟨2, ![1, 1024]⟩
abbrev S1024x2816 : Shape := ⟨2, ![1024, 2816]⟩
abbrev S1x2816 : Shape := ⟨2, ![1, 2816]⟩
abbrev S1408x1024 : Shape := ⟨2, ![1408, 1024]⟩
abbrev S16x1024 : Shape := ⟨2, ![16, 1024]⟩
abbrev S1024x256 : Shape := ⟨2, ![1024, 256]⟩
abbrev S3x256 : Shape := ⟨2, ![3, 256]⟩
abbrev S1x256 : Shape := ⟨2, ![1, 256]⟩
abbrev S256x1024 : Shape := ⟨2, ![256, 1024]⟩
abbrev S1424x1024 : Shape := ⟨2, ![1424, 1024]⟩
abbrev S16 : Shape := ⟨1, ![16]⟩
abbrev S16x1 : Shape := ⟨2, ![16, 1]⟩
abbrev S1408 : Shape := ⟨1, ![1408]⟩
abbrev S1408x1 : Shape := ⟨2, ![1408, 1]⟩
abbrev S1424x256 : Shape := ⟨2, ![1424, 256]⟩
abbrev S1408x256 : Shape := ⟨2, ![1408, 256]⟩

abbrev nBuf : Space → Nat
  | .hbm => 14
  | .vmem => 19
  | .smem => 0
  | _ => 0

abbrev bufTy : (tb : Table) → Fin (tcTables nBuf tb) → BufTy
  | .hbm, ⟨0, _⟩ => ⟨S33792x1024, .f32⟩
  | .hbm, ⟨1, _⟩ => ⟨S1024, .f32⟩
  | .hbm, ⟨2, _⟩ => ⟨S1024x5632, .f32⟩
  | .hbm, ⟨3, _⟩ => ⟨S3x2816, .f32⟩
  | .hbm, ⟨4, _⟩ => ⟨S2816, .f32⟩
  | .hbm, ⟨5, _⟩ => ⟨S2816x1024, .f32⟩
  | .hbm, ⟨6, _⟩ => ⟨S1x1024, .f32⟩
  | .hbm, ⟨7, _⟩ => ⟨S1024x2816, .f32⟩
  | .hbm, ⟨8, _⟩ => ⟨S1024x2816, .bf16⟩
  | .hbm, ⟨9, _⟩ => ⟨S1024x2816, .f32⟩
  | .hbm, ⟨10, _⟩ => ⟨S1024x2816, .bf16⟩
  | .hbm, ⟨11, _⟩ => ⟨S1x2816, .f32⟩
  | .hbm, ⟨12, _⟩ => ⟨S2816x1024, .bf16⟩
  | .hbm, ⟨13, _⟩ => ⟨S33792x1024, .f32⟩
  | .local _ .vmem, ⟨0, _⟩ => ⟨S1408x1024, .f32⟩
  | .local _ .vmem, ⟨1, _⟩ => ⟨S1408x1024, .f32⟩
  | .local _ .vmem, ⟨2, _⟩ => ⟨S16x1024, .f32⟩
  | .local _ .vmem, ⟨3, _⟩ => ⟨S16x1024, .f32⟩
  | .local _ .vmem, ⟨4, _⟩ => ⟨S1x1024, .f32⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S1024x256, .bf16⟩
  | .local _ .vmem, ⟨9, _⟩ => ⟨S3x256, .f32⟩
  | .local _ .vmem, ⟨10, _⟩ => ⟨S3x256, .f32⟩
  | .local _ .vmem, ⟨11, _⟩ => ⟨S1x256, .f32⟩
  | .local _ .vmem, ⟨12, _⟩ => ⟨S1x256, .f32⟩
  | .local _ .vmem, ⟨13, _⟩ => ⟨S256x1024, .bf16⟩
  | .local _ .vmem, ⟨14, _⟩ => ⟨S256x1024, .bf16⟩
  | .local _ .vmem, ⟨15, _⟩ => ⟨S1408x1024, .f32⟩
  | .local _ .vmem, ⟨16, _⟩ => ⟨S1408x1024, .f32⟩
  | .local _ .vmem, ⟨17, _⟩ => ⟨S1424x1024, .bf16⟩
  | .local _ .vmem, ⟨18, _⟩ => ⟨S1408x1024, .f32⟩
  | _, _ => ⟨S33792x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![24, 11], ![false, false]⟩

def k0_cond2 (i : grid0.Coords) : BitVec 1 :=
  let arg1 : BitVec 32 := BitVec.ofNat 32 (i 1).val
  let c10_i32 : BitVec 32 := 10#32
  let v50 : BitVec 1 := Scalar.cmpi .eq arg1 c10_i32
  let v51 : BitVec 32 := Scalar.extui v50
  let c0_i32_21 : BitVec 32 := 0#32
  let v52 : BitVec 1 := Scalar.cmpi .ne v51 c0_i32_21
  v52

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c88_i32 : BitVec 32 := 88#32
  let v0 : BitVec 32 := Scalar.muli arg0 c88_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1408x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1408x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference2Ideal.lean ====
abbrev S33792x1024 : Shape := ⟨2, ![33792, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S8x4224x1024 : Shape := ⟨3, ![8, 4224, 1024]⟩
abbrev S_ : Shape := ⟨0, ![]⟩
abbrev S8x4224 : Shape := ⟨2, ![8, 4224]⟩
abbrev S8x4224x1 : Shape := ⟨3, ![8, 4224, 1]⟩
abbrev S1x1x1024 : Shape := ⟨3, ![1, 1, 1024]⟩
abbrev S8x4224x5632 : Shape := ⟨3, ![8, 4224, 5632]⟩
abbrev S8x4224x2816 : Shape := ⟨3, ![8, 4224, 2816]⟩
abbrev S8x4226x2816 : Shape := ⟨3, ![8, 4226, 2816]⟩
abbrev S1x2816 : Shape := ⟨2, ![1, 2816]⟩
abbrev S1x1x2816 : Shape := ⟨3, ![1, 1, 2816]⟩

abbrev nBuf : Space → Nat
  | .hbm => 68
  | .vmem => 0
  | .smem => 0
  | _ => 0

abbrev bufTy : (tb : Table) → Fin (tcTables nBuf tb) → BufTy
  | .hbm, ⟨0, _⟩ => ⟨S33792x1024, .f32⟩
  | .hbm, ⟨1, _⟩ => ⟨S1024, .f32⟩
  | .hbm, ⟨2, _⟩ => ⟨S1024x5632, .f32⟩
  | .hbm, ⟨3, _⟩ => ⟨S3x2816, .f32⟩
  | .hbm, ⟨4, _⟩ => ⟨S2816, .f32⟩
  | .hbm, ⟨5, _⟩ => ⟨S2816x1024, .f32⟩
  | .hbm, ⟨6, _⟩ => ⟨S8x4224x1024, .f32⟩
  | .hbm, ⟨7, _⟩ => ⟨S8x4224x1024, .f32⟩
  | .hbm, ⟨8, _⟩ => ⟨S_, .f32⟩
  | .hbm, ⟨9, _⟩ => ⟨S8x4224, .f32⟩
  | .hbm, ⟨10, _⟩ => ⟨S8x4224x1, .f32⟩
  | .hbm, ⟨11, _⟩ => ⟨S_, .f32⟩
  | .hbm, ⟨12, _⟩ => ⟨S8x4224x1, .f32⟩
  | .hbm, ⟨13, _⟩ => ⟨S8x4224x1, .f32⟩
  | .hbm, ⟨14, _⟩ => ⟨S_, .f32⟩
  | .hbm, ⟨15, _⟩ => ⟨S8x4224x1, .f32⟩
  | .hbm, ⟨16, _⟩ => ⟨S8x4224x1, .f32⟩
  | .hbm, ⟨17, _⟩ => ⟨S8x4224x1, .f32⟩
  | .hbm, ⟨18, _⟩ => ⟨S8x4224x1024, .f32⟩
  | .hbm, ⟨19, _⟩ => ⟨S8x4224x1024, .f32⟩
  | .hbm, ⟨20, _⟩ => ⟨S1x1x1024, .f32⟩
  | .hbm, ⟨21, _⟩ => ⟨S8x4224x1024, .f32⟩
  | .hbm, ⟨22, _⟩ => ⟨S8x4224x1024, .f32⟩
  | .hbm, ⟨23, _⟩ => ⟨S8x4224x5632, .f32⟩
  | .hbm, ⟨24, _⟩ => ⟨S8x4224x2816, .f32⟩
  | .hbm, ⟨25, _⟩ => ⟨S8x4224x2816, .f32⟩
  | .hbm, ⟨26, _⟩ => ⟨S_, .i32⟩
  | .hbm, ⟨27, _⟩ => ⟨S_, .f32⟩
  | .hbm, ⟨28, _⟩ => ⟨S8x4226x2816, .f32⟩
  | .hbm, ⟨29, _⟩ => ⟨S8x4224x2816, .f32⟩
  | .hbm, ⟨30, _⟩ => ⟨S1x2816, .f32⟩
  | .hbm, ⟨31, _⟩ => ⟨S2816, .f32⟩
  | .hbm, ⟨32, _⟩ => ⟨S1x1x2816, .f32⟩
  | .hbm, ⟨33, _⟩ => ⟨S8x4224x2816, .f32⟩
  | .hbm, ⟨34, _⟩ => ⟨S8x4224x2816, .f32⟩
  | .hbm, ⟨35, _⟩ => ⟨S_, .f32⟩
  | .hbm, ⟨36, _⟩ => ⟨S8x4224x2816, .f32⟩
  | .hbm, ⟨37, _⟩ => ⟨S8x4224x2816, .f32⟩
  | .hbm, ⟨38, _⟩ => ⟨S8x4224x2816, .f32⟩
  | .hbm, ⟨39, _⟩ => ⟨S1x2816, .f32⟩
  | .hbm, ⟨40, _⟩ => ⟨S2816, .f32⟩
  | .hbm, ⟨41, _⟩ => ⟨S1x1x2816, .f32⟩
  | .hbm, ⟨42, _⟩ => ⟨S8x4224x2816, .f32⟩
  | .hbm, ⟨43, _⟩ => ⟨S8x4224x2816, .f32⟩
  | .hbm, ⟨44, _⟩ => ⟨S8x4224x2816, .f32⟩
  | .hbm, ⟨45, _⟩ => ⟨S8x4224x2816, .f32⟩
  | .hbm, ⟨46, _⟩ => ⟨S1x2816, .f32⟩
  | .hbm, ⟨47, _⟩ => ⟨S2816, .f32⟩
  | .hbm, ⟨48, _⟩ => ⟨S1x1x2816, .f32⟩
  | .hbm, ⟨49, _⟩ => ⟨S8x4224x2816, .f32⟩
  | .hbm, ⟨50, _⟩ => ⟨S8x4224x2816, .f32⟩
  | .hbm, ⟨51, _⟩ => ⟨S8x4224x2816, .f32⟩
  | .hbm, ⟨52, _⟩ => ⟨S1x1x2816, .f32⟩
  | .hbm, ⟨53, _⟩ => ⟨S8x4224x2816, .f32⟩
  | .hbm, ⟨54, _⟩ => ⟨S8x4224x2816, .f32⟩
  | .hbm, ⟨55, _⟩ => ⟨S8x4224x2816, .f32⟩
  | .hbm, ⟨56, _⟩ => ⟨S8x4224x2816, .f32⟩
  | .hbm, ⟨57, _⟩ => ⟨S_, .f32⟩
  | .hbm, ⟨58, _⟩ => ⟨S8x4224x2816, .f32⟩
  | .hbm, ⟨59, _⟩ => ⟨S8x4224x2816, .f32⟩
  | .hbm, ⟨60, _⟩ => ⟨S_, .f32⟩
  | .hbm, ⟨61, _⟩ => ⟨S8x4224x2816, .f32⟩
  | .hbm, ⟨62, _⟩ => ⟨S8x4224x2816, .f32⟩
  | .hbm, ⟨63, _⟩ => ⟨S8x4224x2816, .f32⟩
  | .hbm, ⟨64, _⟩ => ⟨S8x4224x2816, .f32⟩
  | .hbm, ⟨65, _⟩ => ⟨S8x4224x1024, .f32⟩
  | .hbm, ⟨66, _⟩ => ⟨S8x4224x1024, .f32⟩
  | .hbm, ⟨67, _⟩ => ⟨S33792x1024, .f32⟩
  | _, _ => ⟨S33792x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c : Ref sig .tc := ⟨.hbm, 26, rfl⟩
abbrev main_call0_v0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_call1_v0 : Ref sig .tc := ⟨.hbm, 55, rfl⟩
abbrev main_call1_v1 : Ref sig .tc := ⟨.hbm, 56, rfl⟩
abbrev main_call1_cst : Ref sig .tc := ⟨.hbm, 57, rfl⟩
abbrev main_call1_v2 : Ref sig .tc := ⟨.hbm, 58, rfl⟩
abbrev main_call1_v3 : Ref sig .tc := ⟨.hbm, 59, rfl⟩
abbrev main_call1_cst_0 : Ref sig .tc := ⟨.hbm, 60, rfl⟩
abbrev main_call1_v4 : Ref sig .tc := ⟨.hbm, 61, rfl⟩
abbrev main_call1_v5 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩

abbrev nD : Nat := 1
abbrev τ : Topo := Topo.v7x

variable {F : FTy → Type} [FloatOps F]
-- ==== Kernel3.lean ====
abbrev S33792x1024 : Shape := ⟨2, ![33792, 1024]⟩
abbrev S33792x6656 : Shape := ⟨2, ![33792, 6656]⟩
abbrev S33792x256 : Shape := ⟨2, ![33792, 256]⟩
abbrev S33792x512 : Shape := ⟨2, ![33792, 512]⟩
abbrev S256x1024 : Shape := ⟨2, ![256, 1024]⟩
abbrev S512x1024 : Shape := ⟨2, ![512, 1024]⟩
abbrev S1024x1024 : Shape := ⟨2, ![1024, 1024]⟩
abbrev S512x256 : Shape := ⟨2, ![512, 256]⟩
abbrev S512x512 : Shape := ⟨2, ![512, 512]⟩

abbrev nBuf : Space → Nat
  | .hbm => 14
  | .vmem => 20
  | .smem => 0
  | _ => 0

abbrev bufTy : (tb : Table) → Fin (tcTables nBuf tb) → BufTy
  | .hbm, ⟨0, _⟩ => ⟨S33792x1024, .f32⟩
  | .hbm, ⟨1, _⟩ => ⟨S33792x6656, .bf16⟩
  | .hbm, ⟨2, _⟩ => ⟨S33792x256, .bf16⟩
  | .hbm, ⟨3, _⟩ => ⟨S33792x256, .bf16⟩
  | .hbm, ⟨4, _⟩ => ⟨S33792x512, .bf16⟩
  | .hbm, ⟨5, _⟩ => ⟨S256x1024, .f32⟩
  | .hbm, ⟨6, _⟩ => ⟨S256x1024, .f32⟩
  | .hbm, ⟨7, _⟩ => ⟨S512x1024, .f32⟩
  | .hbm, ⟨8, _⟩ => ⟨S1024x1024, .f32⟩
  | .hbm, ⟨9, _⟩ => ⟨S256x1024, .bf16⟩
  | .hbm, ⟨10, _⟩ => ⟨S256x1024, .bf16⟩
  | .hbm, ⟨11, _⟩ => ⟨S512x1024, .bf16⟩
  | .hbm, ⟨12, _⟩ => ⟨S1024x1024, .bf16⟩
  | .hbm, ⟨13, _⟩ => ⟨S33792x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x256, .bf16⟩
  | .local _ .vmem, ⟨9, _⟩ => ⟨S512x256, .bf16⟩
  | .local _ .vmem, ⟨10, _⟩ => ⟨S512x256, .bf16⟩
  | .local _ .vmem, ⟨11, _⟩ => ⟨S512x256, .bf16⟩
  | .local _ .vmem, ⟨12, _⟩ => ⟨S512x512, .bf16⟩
  | .local _ .vmem, ⟨13, _⟩ => ⟨S512x512, .bf16⟩
  | .local _ .vmem, ⟨14, _⟩ => ⟨S256x1024, .bf16⟩
  | .local _ .vmem, ⟨15, _⟩ => ⟨S256x1024, .bf16⟩
  | .local _ .vmem, ⟨16, _⟩ => ⟨S512x1024, .bf16⟩
  | .local _ .vmem, ⟨17, _⟩ => ⟨S1024x1024, .bf16⟩
  | .local _ .vmem, ⟨18, _⟩ => ⟨S512x1024, .f32⟩
  | .local _ .vmem, ⟨19, _⟩ => ⟨S512x1024, .f32⟩
  | _, _ => ⟨S33792x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S33792x1024 : Shape := ⟨2, ![33792, 1024]⟩
abbrev S33792x6656 : Shape := ⟨2, ![33792, 6656]⟩
abbrev S33792x256 : Shape := ⟨2, ![33792, 256]⟩
abbrev S33792x512 : Shape := ⟨2, ![33792, 512]⟩
abbrev S256x1024 : Shape := ⟨2, ![256, 1024]⟩
abbrev S512x1024 : Shape := ⟨2, ![512, 1024]⟩
abbrev S1024x1024 : Shape := ⟨2, ![1024, 1024]⟩

abbrev nBuf : Space → Nat
  | .hbm => 28
  | .vmem => 0
  | .smem => 0
  | _ => 0

abbrev bufTy : (tb : Table) → Fin (tcTables nBuf tb) → BufTy
  | .hbm, ⟨0, _⟩ => ⟨S33792x1024, .f32⟩
  | .hbm, ⟨1, _⟩ => ⟨S33792x6656, .bf16⟩
  | .hbm, ⟨2, _⟩ => ⟨S33792x256, .bf16⟩
  | .hbm, ⟨3, _⟩ => ⟨S33792x256, .bf16⟩
  | .hbm, ⟨4, _⟩ => ⟨S33792x512, .bf16⟩
  | .hbm, ⟨5, _⟩ => ⟨S256x1024, .f32⟩
  | .hbm, ⟨6, _⟩ => ⟨S256x1024, .f32⟩
  | .hbm, ⟨7, _⟩ => ⟨S512x1024, .f32⟩
  | .hbm, ⟨8, _⟩ => ⟨S1024x1024, .f32⟩
  | .hbm, ⟨9, _⟩ => ⟨S33792x1024, .bf16⟩
  | .hbm, ⟨10, _⟩ => ⟨S33792x1024, .f32⟩
  | .hbm, ⟨11, _⟩ => ⟨S33792x1024, .bf16⟩
  | .hbm, ⟨12, _⟩ => ⟨S33792x1024, .f32⟩
  | .hbm, ⟨13, _⟩ => ⟨S33792x1024, .bf16⟩
  | .hbm, ⟨14, _⟩ => ⟨S33792x1024, .f32⟩
  | .hbm, ⟨15, _⟩ => ⟨S33792x256, .f32⟩
  | .hbm, ⟨16, _⟩ => ⟨S33792x1024, .f32⟩
  | .hbm, ⟨17, _⟩ => ⟨S33792x1024, .f32⟩
  | .hbm, ⟨18, _⟩ => ⟨S33792x256, .f32⟩
  | .hbm, ⟨19, _⟩ => ⟨S33792x1024, .f32⟩
  | .hbm, ⟨20, _⟩ => ⟨S33792x1024, .f32⟩
  | .hbm, ⟨21, _⟩ => ⟨S33792x1024, .f32⟩
  | .hbm, ⟨22, _⟩ => ⟨S33792x512, .f32⟩
  | .hbm, ⟨23, _⟩ => ⟨S33792x1024, .f32⟩
  | .hbm, ⟨24, _⟩ => ⟨S33792x1024, .f32⟩
  | .hbm, ⟨25, _⟩ => ⟨S33792x1024, .f32⟩
  | .hbm, ⟨26, _⟩ => ⟨S33792x1024, .f32⟩
  | .hbm, ⟨27, _⟩ => ⟨S33792x1024, .f32⟩
  | _, _ => ⟨S33792x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== Kernel4.lean ====
abbrev S33792x1024 : Shape := ⟨2, ![33792, 1024]⟩
abbrev S1024 : Shape := ⟨1, ![1024]⟩
abbrev S1024x6440 : Shape := ⟨2, ![1024, 6440]⟩
abbrev S3072 : Shape := ⟨1, ![3072]⟩
abbrev S64 : Shape := ⟨1, ![64]⟩
abbrev S256x256 : Shape := ⟨2, ![256, 256]⟩
abbrev S_ : Shape := ⟨0, ![]⟩
abbrev S6656 : Shape := ⟨1, ![6656]⟩
abbrev S1 : Shape := ⟨1, ![1]⟩
abbrev S256 : Shape := ⟨1, ![256]⟩
abbrev S1x64 : Shape := ⟨2, ![1, 64]⟩
abbrev S4x64 : Shape := ⟨2, ![4, 64]⟩
abbrev S8x64 : Shape := ⟨2, ![8, 64]⟩
abbrev S512 : Shape := ⟨1, ![512]⟩
abbrev S1x6656 : Shape := ⟨2, ![1, 6656]⟩
abbrev S1x1024 : Shape := ⟨2, ![1, 1024]⟩
abbrev S1024x8 : Shape := ⟨2, ![1024, 8]⟩
abbrev S1024x128 : Shape := ⟨2, ![1024, 128]⟩
abbrev S1024x3072 : Shape := ⟨2, ![1024, 3072]⟩
abbrev S1024x1792 : Shape := ⟨2, ![1024, 1792]⟩
abbrev S1024x32 : Shape := ⟨2, ![1024, 32]⟩
abbrev S1x1024x1x32 : Shape := ⟨4, ![1, 1024, 1, 32]⟩
abbrev S1x1024x4x32 : Shape := ⟨4, ![1, 1024, 4, 32]⟩
abbrev S1024x1536 : Shape := ⟨2, ![1024, 1536]⟩
abbrev S1024x6656 : Shape := ⟨2, ![1024, 6656]⟩
abbrev S33792x6656 : Shape := ⟨2, ![33792, 6656]⟩
abbrev S1024x1024 : Shape := ⟨2, ![1024, 1024]⟩
abbrev S1024x256 : Shape := ⟨2, ![1024, 256]⟩
abbrev S1x256 : Shape := ⟨2, ![1, 256]⟩
abbrev S1024x1 : Shape := ⟨2, ![1024, 1]⟩

abbrev nBuf : Space → Nat
  | .hbm => 68
  | .vmem => 13
  | .smem => 0
  | _ => 0

abbrev bufTy : (tb : Table) → Fin (tcTables nBuf tb) → BufTy
  | .hbm, ⟨0, _⟩ => ⟨S33792x1024, .f32⟩
  | .hbm, ⟨1, _⟩ => ⟨S1024, .f32⟩
  | .hbm, ⟨2, _⟩ => ⟨S1024x6440, .f32⟩
  | .hbm, ⟨3, _⟩ => ⟨S3072, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S256x256, .bf16⟩
  | .hbm, ⟨9, _⟩ => ⟨S_, .f32⟩
  | .hbm, ⟨10, _⟩ => ⟨S6656, .f32⟩
  | .hbm, ⟨11, _⟩ => ⟨S_, .i32⟩
  | .hbm, ⟨12, _⟩ => ⟨S1, .i32⟩
  | .hbm, ⟨13, _⟩ => ⟨S_, .f32⟩
  | .hbm, ⟨14, _⟩ => ⟨S256, .f32⟩
  | .hbm, ⟨15, _⟩ => ⟨S6656, .f32⟩
  | .hbm, ⟨16, _⟩ => ⟨S1x64, .f32⟩
  | .hbm, ⟨17, _⟩ => ⟨S4x64, .f32⟩
  | .hbm, ⟨18, _⟩ => ⟨S256, .f32⟩
  | .hbm, ⟨19, _⟩ => ⟨S_, .f32⟩
  | .hbm, ⟨20, _⟩ => ⟨S256, .f32⟩
  | .hbm, ⟨21, _⟩ => ⟨S256, .f32⟩
  | .hbm, ⟨22, _⟩ => ⟨S_, .i32⟩
  | .hbm, ⟨23, _⟩ => ⟨S1, .i32⟩
  | .hbm, ⟨24, _⟩ => ⟨S6656, .f32⟩
  | .hbm, ⟨25, _⟩ => ⟨S1x64, .f32⟩
  | .hbm, ⟨26, _⟩ => ⟨S4x64, .f32⟩
  | .hbm, ⟨27, _⟩ => ⟨S256, .f32⟩
  | .hbm, ⟨28, _⟩ => ⟨S_, .i32⟩
  | .hbm, ⟨29, _⟩ => ⟨S1, .i32⟩
  | .hbm, ⟨30, _⟩ => ⟨S6656, .f32⟩
  | .hbm, ⟨31, _⟩ => ⟨S1x64, .f32⟩
  | .hbm, ⟨32, _⟩ => ⟨S8x64, .f32⟩
  | .hbm, ⟨33, _⟩ => ⟨S512, .f32⟩
  | .hbm, ⟨34, _⟩ => ⟨S_, .f32⟩
  | .hbm, ⟨35, _⟩ => ⟨S512, .f32⟩
  | .hbm, ⟨36, _⟩ => ⟨S512, .f32⟩
  | .hbm, ⟨37, _⟩ => ⟨S_, .i32⟩
  | .hbm, ⟨38, _⟩ => ⟨S1, .i32⟩
  | .hbm, ⟨39, _⟩ => ⟨S6656, .f32⟩
  | .hbm, ⟨40, _⟩ => ⟨S1x64, .f32⟩
  | .hbm, ⟨41, _⟩ => ⟨S8x64, .f32⟩
  | .hbm, ⟨42, _⟩ => ⟨S512, .f32⟩
  | .hbm, ⟨43, _⟩ => ⟨S_, .i32⟩
  | .hbm, ⟨44, _⟩ => ⟨S1, .i32⟩
  | .hbm, ⟨45, _⟩ => ⟨S6656, .f32⟩
  | .hbm, ⟨46, _⟩ => ⟨S_, .f32⟩
  | .hbm, ⟨47, _⟩ => ⟨S6656, .f32⟩
  | .hbm, ⟨48, _⟩ => ⟨S_, .i32⟩
  | .hbm, ⟨49, _⟩ => ⟨S1, .i32⟩
  | .hbm, ⟨50, _⟩ => ⟨S6656, .f32⟩
  | .hbm, ⟨51, _⟩ => ⟨S1x6656, .f32⟩
  | .hbm, ⟨52, _⟩ => ⟨S1x6656, .f32⟩
  | .hbm, ⟨53, _⟩ => ⟨S1x1024, .f32⟩
  | .hbm, ⟨54, _⟩ => ⟨S1024x8, .f32⟩
  | .hbm, ⟨55, _⟩ => ⟨S_, .i32⟩
  | .hbm, ⟨56, _⟩ => ⟨S_, .f32⟩
  | .hbm, ⟨57, _⟩ => ⟨S1024x128, .f32⟩
  | .hbm, ⟨58, _⟩ => ⟨S1024x3072, .f32⟩
  | .hbm, ⟨59, _⟩ => ⟨S1024x1792, .f32⟩
  | .hbm, ⟨60, _⟩ => ⟨S1024x32, .f32⟩
  | .hbm, ⟨61, _⟩ => ⟨S1x1024x1x32, .f32⟩
  | .hbm, ⟨62, _⟩ => ⟨S1x1024x4x32, .f32⟩
  | .hbm, ⟨63, _⟩ => ⟨S1024x128, .f32⟩
  | .hbm, ⟨64, _⟩ => ⟨S1024x1536, .f32⟩
  | .hbm, ⟨65, _⟩ => ⟨S1024x6656, .f32⟩
  | .hbm, ⟨66, _⟩ => ⟨S1024x6656, .bf16⟩
  | .hbm, ⟨67, _⟩ => ⟨S33792x6656, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x256, .bf16⟩
  | .local _ .vmem, ⟨4, _⟩ => ⟨S1024x256, .bf16⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S256x256, .bf16⟩
  | .local _ .vmem, ⟨10, _⟩ => ⟨S1024x256, .bf16⟩
  | .local _ .vmem, ⟨11, _⟩ => ⟨S1024x256, .bf16⟩
  | .local _ .vmem, ⟨12, _⟩ => ⟨S1024x1024, .bf16⟩
  | _, _ => ⟨S33792x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_cst_1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_c_3 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c_4 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_5 : Ref sig .tc := ⟨.hbm, 34, rfl⟩
abbrev main_v19 : Ref sig .tc := ⟨.hbm, 35, rfl⟩
abbrev main_v20 : Ref sig .tc := ⟨.hbm, 36, rfl⟩
abbrev main_c_6 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_7 : Ref sig .tc := ⟨.hbm, 43, rfl⟩
abbrev main_v26 : Ref sig .tc := ⟨.hbm, 44, rfl⟩
abbrev main_v27 : Ref sig .tc := ⟨.hbm, 45, rfl⟩
abbrev main_cst_8 : Ref sig .tc := ⟨.hbm, 46, rfl⟩
abbrev main_v28 : Ref sig .tc := ⟨.hbm, 47, rfl⟩
abbrev main_c_9 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_10 : Ref sig .tc := ⟨.hbm, 55, rfl⟩
abbrev main_call0_v0 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![33, 26], ![false, false]⟩

def k0_cond2 (i : grid0.Coords) : BitVec 1 :=
  let arg1 : BitVec 32 := BitVec.ofNat 32 (i 1).val
  let c12_i32 : BitVec 32 := 12#32
  let v7 : BitVec 1 := Scalar.cmpi .slt arg1 c12_i32
  let v15 : BitVec 32 := Scalar.extui v7
  let c0_i32_4 : BitVec 32 := 0#32
  let v16 : BitVec 1 := Scalar.cmpi .ne v15 c0_i32_4
  v16

def k0_cond3 (i : grid0.Coords) : BitVec 1 :=
  let arg1 : BitVec 32 := BitVec.ofNat 32 (i 1).val
  let c15_i32 : BitVec 32 := 15#32
  let v8 : BitVec 1 := Scalar.cmpi .eq arg1 c15_i32
  let c16_i32 : BitVec 32 := 16#32
  let v9 : BitVec 1 := Scalar.cmpi .eq arg1 c16_i32
  let v10 : BitVec 1 := Scalar.ori v8 v9
  let c20_i32 : BitVec 32 := 20#32
  let v11 : BitVec 1 := Scalar.cmpi .sge arg1 c20_i32
  let c24_i32 : BitVec 32 := 24#32
  let v12 : BitVec 1 := Scalar.cmpi .slt arg1 c24_i32
  let v13 : BitVec 1 := Scalar.andi v11 v12
  let v14 : BitVec 1 := Scalar.ori v10 v13
  let v17 : BitVec 32 := Scalar.extui v14
  let c0_i32_5 : BitVec 32 := 0#32
  let v18 : BitVec 1 := Scalar.cmpi .ne v17 c0_i32_5
  v18

def k0_cond4 (i : grid0.Coords) : BitVec 1 :=
  let arg1 : BitVec 32 := BitVec.ofNat 32 (i 1).val
  let c12_i32 : BitVec 32 := 12#32
  let v7 : BitVec 1 := Scalar.cmpi .slt arg1 c12_i32
  let c15_i32 : BitVec 32 := 15#32
  let v8 : BitVec 1 := Scalar.cmpi .eq arg1 c15_i32
  let c16_i32 : BitVec 32 := 16#32
  let v9 : BitVec 1 := Scalar.cmpi .eq arg1 c16_i32
  let v10 : BitVec 1 := Scalar.ori v8 v9
  let c20_i32 : BitVec 32 := 20#32
  let v11 : BitVec 1 := Scalar.cmpi .sge arg1 c20_i32
  let c24_i32 : BitVec 32 := 24#32
  let v12 : BitVec 1 := Scalar.cmpi .slt arg1 c24_i32
  let v13 : BitVec 1 := Scalar.andi v11 v12
  let v14 : BitVec 1 := Scalar.ori v10 v13
  let v19 : BitVec 1 := Scalar.ori v7 v14
  let v_true : BitVec 1 := 1#1
  let v20 : BitVec 1 := Scalar.xori v19 v_true
  let v21 : BitVec 32 := Scalar.extui v20
  let c0_i32_6 : BitVec 32 := 0#32
  let v22 : BitVec 1 := Scalar.cmpi .ne v21 c0_i32_6
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference4Ideal.lean ====
abbrev S33792x1024 : Shape := ⟨2, ![33792, 1024]⟩
abbrev S1024 : Shape := ⟨1, ![1024]⟩
abbrev S1024x6440 : Shape := ⟨2, ![1024, 6440]⟩
abbrev S3072 : Shape := ⟨1, ![3072]⟩
abbrev S64 : Shape := ⟨1, ![64]⟩
abbrev S_ : Shape := ⟨0, ![]⟩
abbrev S33792 : Shape := ⟨1, ![33792]⟩
abbrev S33792x1 : Shape := ⟨2, ![33792, 1]⟩
abbrev S1x1024 : Shape := ⟨2, ![1, 1024]⟩
abbrev S33792x6440 : Shape := ⟨2, ![33792, 6440]⟩
abbrev S33792x3072 : Shape := ⟨2, ![33792, 3072]⟩
abbrev S1x3072 : Shape := ⟨2, ![1, 3072]⟩
abbrev S33792x256 : Shape := ⟨2, ![33792, 256]⟩
abbrev S33792x512 : Shape := ⟨2, ![33792, 512]⟩
abbrev S33792x4x64 : Shape := ⟨3, ![33792, 4, 64]⟩
abbrev S33792x4 : Shape := ⟨2, ![33792, 4]⟩
abbrev S33792x4x1 : Shape := ⟨3, ![33792, 4, 1]⟩
abbrev S1x1x64 : Shape := ⟨3, ![1, 1, 64]⟩
abbrev S33792x32 : Shape := ⟨2, ![33792, 32]⟩
abbrev S33792x8 : Shape := ⟨2, ![33792, 8]⟩
abbrev S33792x8x64 : Shape := ⟨3, ![33792, 8, 64]⟩
abbrev S33792x8x1 : Shape := ⟨3, ![33792, 8, 1]⟩
abbrev S33792x120 : Shape := ⟨2, ![33792, 120]⟩
abbrev S33792x6656 : Shape := ⟨2, ![33792, 6656]⟩

abbrev nBuf : Space → Nat
  | .hbm => 133
  | .vmem => 0
  | .smem => 0
  | _ => 0

abbrev hbmTy0_0 (i : Nat) : BufTy := match i % 128 with
  | 0 => ⟨S33792x1024, .f32⟩
  | 1 => ⟨S1024, .f32⟩
  | 2 => ⟨S1024x6440, .f32⟩
  | 3 => ⟨S3072, .f32⟩
  | 4 => ⟨S64, .f32⟩
  | 5 => ⟨S64, .f32⟩
  | 6 => ⟨S64, .f32⟩
  | 7 => ⟨S64, .f32⟩
  | 8 => ⟨S33792x1024, .f32⟩
  | 9 => ⟨S_, .f32⟩
  | 10 => ⟨S33792, .f32⟩
  | 11 => ⟨S33792x1, .f32⟩
  | 12 => ⟨S_, .f32⟩
  | 13 => ⟨S33792x1, .f32⟩
  | 14 => ⟨S33792x1, .f32⟩
  | 15 => ⟨S_, .f32⟩
  | 16 => ⟨S33792x1, .f32⟩
  | 17 => ⟨S33792x1, .f32⟩
  | 18 => ⟨S33792x1, .f32⟩
  | 19 => ⟨S33792x1024, .f32⟩
  | 20 => ⟨S33792x1024, .f32⟩
  | 21 => ⟨S1x1024, .f32⟩
  | 22 => ⟨S33792x1024, .f32⟩
  | 23 => ⟨S33792x1024, .f32⟩
  | 24 => ⟨S33792x6440, .f32⟩
  | 25 => ⟨S33792x3072, .f32⟩
  | 26 => ⟨S1x3072, .f32⟩
  | 27 => ⟨S33792x3072, .f32⟩
  | 28 => ⟨S33792x3072, .f32⟩
  | 29 => ⟨S33792x3072, .f32⟩
  | 30 => ⟨S33792x3072, .f32⟩
  | 31 => ⟨S_, .f32⟩
  | 32 => ⟨S33792x3072, .f32⟩
  | 33 => ⟨S33792x3072, .f32⟩
  | 34 => ⟨S_, .f32⟩
  | 35 => ⟨S33792x3072, .f32⟩
  | 36 => ⟨S33792x3072, .f32⟩
  | 37 => ⟨S33792x256, .f32⟩
  | 38 => ⟨S_, .f32⟩
  | 39 => ⟨S33792x256, .f32⟩
  | 40 => ⟨S33792x256, .f32⟩
  | 41 => ⟨S33792x512, .f32⟩
  | 42 => ⟨S33792x256, .f32⟩
  | 43 => ⟨S33792x4x64, .f32⟩
  | 44 => ⟨S33792x4x64, .f32⟩
  | 45 => ⟨S_, .f32⟩
  | 46 => ⟨S33792x4, .f32⟩
  | 47 => ⟨S33792x4x1, .f32⟩
  | 48 => ⟨S_, .f32⟩
  | 49 => ⟨S33792x4x1, .f32⟩
  | 50 => ⟨S33792x4x1, .f32⟩
  | 51 => ⟨S_, .f32⟩
  | 52 => ⟨S33792x4x1, .f32⟩
  | 53 => ⟨S33792x4x1, .f32⟩
  | 54 => ⟨S33792x4x1, .f32⟩
  | 55 => ⟨S33792x4x64, .f32⟩
  | 56 => ⟨S33792x4x64, .f32⟩
  | 57 => ⟨S1x1x64, .f32⟩
  | 58 => ⟨S33792x4x64, .f32⟩
  | 59 => ⟨S33792x4x64, .f32⟩
  | 60 => ⟨S33792x256, .f32⟩
  | 61 => ⟨S_, .f32⟩
  | 62 => ⟨S33792x256, .f32⟩
  | 63 => ⟨S33792x256, .f32⟩
  | 64 => ⟨S33792x256, .f32⟩
  | 65 => ⟨S33792x4x64, .f32⟩
  | 66 => ⟨S33792x4x64, .f32⟩
  | 67 => ⟨S_, .f32⟩
  | 68 => ⟨S33792x4, .f32⟩
  | 69 => ⟨S33792x4x1, .f32⟩
  | 70 => ⟨S_, .f32⟩
  | 71 => ⟨S33792x4x1, .f32⟩
  | 72 => ⟨S33792x4x1, .f32⟩
  | 73 => ⟨S_, .f32⟩
  | 74 => ⟨S33792x4x1, .f32⟩
  | 75 => ⟨S33792x4x1, .f32⟩
  | 76 => ⟨S33792x4x1, .f32⟩
  | 77 => ⟨S33792x4x64, .f32⟩
  | 78 => ⟨S33792x4x64, .f32⟩
  | 79 => ⟨S1x1x64, .f32⟩
  | 80 => ⟨S33792x4x64, .f32⟩
  | 81 => ⟨S33792x4x64, .f32⟩
  | 82 => ⟨S33792x256, .f32⟩
  | 83 => ⟨S33792x256, .f32⟩
  | 84 => ⟨S33792x256, .f32⟩
  | 85 => ⟨S33792x32, .f32⟩
  | 86 => ⟨S33792x8, .f32⟩
  | 87 => ⟨S33792x512, .f32⟩
  | 88 => ⟨S33792x8x64, .f32⟩
  | 89 => ⟨S33792x8x64, .f32⟩
  | 90 => ⟨S_, .f32⟩
  | 91 => ⟨S33792x8, .f32⟩
  | 92 => ⟨S33792x8x1, .f32⟩
  | 93 => ⟨S_, .f32⟩
  | 94 => ⟨S33792x8x1, .f32⟩
  | 95 => ⟨S33792x8x1, .f32⟩
  | 96 => ⟨S_, .f32⟩
  | 97 => ⟨S33792x8x1, .f32⟩
  | 98 => ⟨S33792x8x1, .f32⟩
  | 99 => ⟨S33792x8x1, .f32⟩
  | 100 => ⟨S33792x8x64, .f32⟩
  | 101 => ⟨S33792x8x64, .f32⟩
  | 102 => ⟨S1x1x64, .f32⟩
  | 103 => ⟨S33792x8x64, .f32⟩
  | 104 => ⟨S33792x8x64, .f32⟩
  | 105 => ⟨S33792x512, .f32⟩
  | 106 => ⟨S_, .f32⟩
  | 107 => ⟨S33792x512, .f32⟩
  | 108 => ⟨S33792x512, .f32⟩
  | 109 => ⟨S33792x512, .f32⟩
  | 110 => ⟨S33792x8x64, .f32⟩
  | 111 => ⟨S33792x8x64, .f32⟩
  | 112 => ⟨S_, .f32⟩
  | 113 => ⟨S33792x8, .f32⟩
  | 114 => ⟨S33792x8x1, .f32⟩
  | 115 => ⟨S_, .f32⟩
  | 116 => ⟨S33792x8x1, .f32⟩
  | 117 => ⟨S33792x8x1, .f32⟩
  | 118 => ⟨S_, .f32⟩
  | 119 => ⟨S33792x8x1, .f32⟩
  | 120 => ⟨S33792x8x1, .f32⟩
  | 121 => ⟨S33792x8x1, .f32⟩
  | 122 => ⟨S33792x8x64, .f32⟩
  | 123 => ⟨S33792x8x64, .f32⟩
  | 124 => ⟨S1x1x64, .f32⟩
  | 125 => ⟨S33792x8x64, .f32⟩
  | 126 => ⟨S33792x8x64, .f32⟩
  | 127 => ⟨S33792x512, .f32⟩
  | _ => ⟨S33792x1024, .f32⟩

abbrev hbmTy0_1 (i : Nat) : BufTy := match i % 128 with
  | 0 => ⟨S33792x512, .f32⟩
  | 1 => ⟨S_, .f32⟩
  | 2 => ⟨S33792x120, .f32⟩
  | 3 => ⟨S33792x6656, .f32⟩
  | 4 => ⟨S33792x6656, .bf16⟩
  | _ => ⟨S33792x1024, .f32⟩

abbrev hbmTy (i : Nat) : BufTy := match i / 128 with
  | 0 => hbmTy0_0 i
  | 1 => hbmTy0_1 i
  | _ => ⟨S33792x1024, .f32⟩

abbrev bufTy : (tb : Table) → Fin (tcTables nBuf tb) → BufTy
  | .hbm, ⟨i, _⟩ => hbmTy i
  | _, _ => ⟨S33792x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_9 : Ref sig .tc := ⟨.hbm, 67, rfl⟩
abbrev main_v49 : Ref sig .tc := ⟨.hbm, 68, rfl⟩
abbrev main_v50 : Ref sig .tc := ⟨.hbm, 69, rfl⟩
abbrev main_cst_10 : Ref sig .tc := ⟨.hbm, 70, rfl⟩
abbrev main_v51 : Ref sig .tc := ⟨.hbm, 71, rfl⟩
abbrev main_v52 : Ref sig .tc := ⟨.hbm, 72, rfl⟩
abbrev main_cst_11 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_12 : Ref sig .tc := ⟨.hbm, 90, rfl⟩
abbrev main_v69 : Ref sig .tc := ⟨.hbm, 91, rfl⟩
abbrev main_v70 : Ref sig .tc := ⟨.hbm, 92, rfl⟩
abbrev main_cst_13 : Ref sig .tc := ⟨.hbm, 93, rfl⟩
abbrev main_v71 : Ref sig .tc := ⟨.hbm, 94, rfl⟩
abbrev main_v72 : Ref sig .tc := ⟨.hbm, 95, rfl⟩
abbrev main_cst_14 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_cst_15 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_cst_16 : Ref sig .tc := ⟨.hbm, 112, rfl⟩
abbrev main_v87 : Ref sig .tc := ⟨.hbm, 113, rfl⟩
abbrev main_v88 : Ref sig .tc := ⟨.hbm, 114, rfl⟩
abbrev main_cst_17 : Ref sig .tc := ⟨.hbm, 115, rfl⟩
abbrev main_v89 : Ref sig .tc := ⟨.hbm, 116, rfl⟩
abbrev main_v90 : Ref sig .tc := ⟨.hbm, 117, rfl⟩
abbrev main_cst_18 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_cst_19 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩

abbrev nD : Nat := 1
abbrev τ : Topo := Topo.v7x

variable {F : FTy → Type} [FloatOps F]
-- ==== Proof.Sb.Payload.lean ====
/- What the stick-breaking kernel's printed words hold at an index, over the extended reals: the two head masks, the
   upper triangular matrix of ones, and the words of one chunk of keys, with and without the causal mask. -/
module

public import proofs.«01_k».proof.Proof.Gen.KernelIdeal.Skeleton
public import Idealize.ShloMosaic.Lib.Pipeline.ValueKit
public import Idealize.ShloMosaic.Lib.WordCmp

@[expose] public section

set_option maxRecDepth 16384

noncomputable section

namespace Cert.KernelIdeal.Sb

open Cert.KernelIdeal Cert.KernelIdeal.Gen Idealize.ShloMosaic.WordCmp Idealize.ShloMosaic Idealize.ShloMosaic.TcCoe Idealize.SL.Sem

/-- The log of the logistic function, as the kernel writes it. -/
def lsm (z : EReal) : EReal := min z 0 - Ideal.log1p (Ideal.exp (0 - max z (-z)))

/-- The log of one minus the logistic function, as the kernel writes it. -/
def lb (z : EReal) : EReal := lsm z - z

/-- The score of key row `r` of a chunk with query row `c`, over the lanes that the mask `mk` keeps. -/
def zz (mk : FVec Ideal S1x128 .bf16) (q ks : FVec Ideal S384x128 .bf16) (r c : Fin 384) : EReal :=
  ∑ x : Fin 128, ks (ix2 r x) * mk (ix2 0 x) * q (ix2 c x)

/-- The log of one minus the logistic function of the score, zero where the key does not count. -/
def Lc (mk : FVec Ideal S1x128 .bf16) (q ks : FVec Ideal S384x128 .bf16) (V : Fin 384 → Fin 384 → Prop)
    [∀ r c, Decidable (V r c)] (r c : Fin 384) : EReal :=
  if V r c then lb (zz mk q ks r c) else 0

/-- The weight of key row `r` for query row `c`: `up` sums the later rows of the chunk, in two halves, and the
carry stands for the chunks behind it. -/
def wt (up : FVec Ideal S384x384 .bf16) (mk : FVec Ideal S1x128 .bf16) (q ks : FVec Ideal S384x128 .bf16)
    (V : Fin 384 → Fin 384 → Prop) [∀ r c, Decidable (V r c)] (carry : FVec Ideal S1x384 .f32) (r c : Fin 384) : EReal :=
  if V r c then Ideal.exp (lsm (zz mk q ks r c) +
    ((∑ x : Fin 384, up (ix2 r x) * Lc mk q ks V x c
      + ∑ x : Fin 384, up (ix2 r x) * (Lc mk q ks V x c - Lc mk q ks V x c)) + carry (ix2 0 c))) else 0

/-- Every key of the chunk counts. -/
abbrev all : Fin 384 → Fin 384 → Prop := fun _ _ => True

/-- The key row lies strictly before the query row. -/
abbrev before : Fin 384 → Fin 384 → Prop := fun r c => r.val < c.val

theorem absf_ideal (z : EReal) : (FloatOps.absf (F := Ideal) (φ := .f32) z : EReal) = max z (-z) := rfl

section Trip
variable (q ks vs : FVec Ideal S384x128 .bf16) (mk : FVec Ideal S1x128 .bf16) (up : FVec Ideal S384x384 .bf16)
  (carry : FVec Ideal S1x384 .f32) (acc : FVec Ideal S128x384 .f32)

theorem p16 (c : Fin 384) :
    k0_pay16 q mk carry ks (ix2 (0 : Fin 1) c) = carry (ix2 0 c) + ∑ r : Fin 384, Lc mk q ks all r c := by
  pointwise [k0_pay16, k0_pay14, k0_pay13, k0_pay12]
  simp only [Lc, lb, lsm, zz, if_true, absf_ideal]

theorem p6 (c : Fin 384) :
    k0_pay6 carry (k0_pay17 q mk ks) (k0_pay18 q mk ks) (k0_pay19 q mk ks) (Scalar.ofBits .f32 0x00000000#32) (ix2 (0 : Fin 1) c)
      = carry (ix2 0 c) + ∑ r : Fin 384, Lc mk q ks all r c := by
  pointwise [k0_pay6, k0_pay4, k0_pay3, k0_pay17, k0_pay18, k0_pay19]
  simp only [Lc, lb, lsm, zz, if_true, absf_ideal]

theorem p15 (d : Fin 128) (c : Fin 384) :
    k0_pay15 q mk up carry acc ks vs (ix2 d c)
      = acc (ix2 d c) + ∑ r : Fin 384, vs (ix2 r d) * mk (ix2 0 d) * wt up mk q ks all carry r c := by
  pointwise [k0_pay15, k0_pay14, k0_pay13, k0_pay12]
  simp only [wt, Lc, lb, lsm, zz, if_true, absf_ideal]

theorem p5 (d : Fin 128) (c : Fin 384) :
    k0_pay5 mk up carry vs acc (k0_pay17 q mk ks) (k0_pay18 q mk ks) (k0_pay19 q mk ks) (Scalar.ofBits .f32 0x00000000#32) (ix2 d c)
      = acc (ix2 d c) + ∑ r : Fin 384, vs (ix2 r d) * mk (ix2 0 d) * wt up mk q ks all carry r c := by
  pointwise [k0_pay5, k0_pay4, k0_pay3, k0_pay17, k0_pay18, k0_pay19]
  simp only [wt, Lc, lb, lsm, zz, if_true, absf_ideal]

end Trip

/-- A choice by the comparison of two row numbers. -/
theorem select_slt {α : Type} (a b : Fin 384) (x y : α) :
    Scalar.select (IntOp.cmpi .slt (BitVec.ofNat 32 a.val) (BitVec.ofNat 32 b.val)) x y = if a.val < b.val then x else y := by
  rw [cmpi_slt_ofNat (by omega) (by omega)]
  by_cases h : a.val < b.val <;> simp [h, Scalar.select]

/-- A truth value widened to a word and read as a number. -/
theorem sitofp_ofBool (p : Prop) [Decidable p] :
    (FloatOps.sitofp (F := Ideal) .f32 (BitVec.setWidth 32 (BitVec.ofBool (decide p))) : EReal) = if p then 1 else 0 := by
  show (((BitVec.setWidth 32 (BitVec.ofBool (decide p))).toInt : ℝ) : EReal) = _
  by_cases h : p <;> simp [h]

section Diag
variable (q ks vs : FVec Ideal S384x128 .bf16) (mk : FVec Ideal S1x128 .bf16) (up : FVec Ideal S384x384 .bf16)
  (carry : FVec Ideal S1x384 .f32) (acc : FVec Ideal S128x384 .f32)

theorem p40 (c : Fin 384) :
    k0_pay40 carry (k0_pay36 q ks) (ix2 (0 : Fin 1) c)
      = carry (ix2 0 c) + ∑ r : Fin 384, Lc (k0_pay28 (F := Ideal)) q ks before r c := by
  pointwise [k0_pay40, k0_pay36, k0_pay34, k0_pay33, k0_pay35]
  simp only [Lc, lb, lsm, zz, absf_ideal, select_slt, mul_ite, mul_zero, before]

theorem p2 (c : Fin 384) :
    k0_pay2 carry (k0_pay44 q mk (iota .tc S384x384 32 [0] iota_S384x384_d0_w32) (iota .tc S384x384 32 [1] iota_S384x384_d1_w32) ks)
        (ix2 (0 : Fin 1) c)
      = carry (ix2 0 c) + ∑ r : Fin 384, Lc mk q ks before r c := by
  pointwise [k0_pay2, k0_pay44, k0_pay43, k0_pay42, k0_pay41]
  simp only [Lc, lb, lsm, zz, absf_ideal, select_slt, mul_ite, mul_zero, before]

theorem p39 (d : Fin 128) (c : Fin 384) :
    k0_pay39 (k0_pay28 (F := Ideal)) up carry acc vs (k0_pay34 q ks) k0_pay35 (k0_pay37 q ks) (k0_pay38 q ks) (ix2 d c)
      = acc (ix2 d c) + ∑ r : Fin 384, vs (ix2 r d) * k0_pay28 (F := Ideal) (ix2 0 d) * wt up (k0_pay28 (F := Ideal)) q ks before carry r c := by
  pointwise [k0_pay39, k0_pay38, k0_pay37, k0_pay36, k0_pay35, k0_pay34, k0_pay33]
  simp only [wt, Lc, lb, lsm, zz, absf_ideal, select_slt, mul_ite, mul_zero, before]

theorem p1 (d : Fin 128) (c : Fin 384) :
    k0_pay1 acc (k0_pay45 q mk (iota .tc S384x384 32 [0] iota_S384x384_d0_w32) (iota .tc S384x384 32 [1] iota_S384x384_d1_w32) up carry ks)
        (k0_pay46 mk vs) (ix2 d c)
      = acc (ix2 d c) + ∑ r : Fin 384, vs (ix2 r d) * mk (ix2 0 d) * wt up mk q ks before carry r c := by
  pointwise [k0_pay1, k0_pay46, k0_pay45, k0_pay44, k0_pay43, k0_pay42, k0_pay41]
  simp only [wt, Lc, lb, lsm, zz, absf_ideal, select_slt, mul_ite, mul_zero, before]

end Diag

/-- The first head's lanes. -/
theorem p28 (o : Fin 1) (d : Fin 128) : k0_pay28 (F := Ideal) (ix2 o d) = if d.val < 64 then 1 else 0 := by
  pointwise [k0_pay28]
  rw [cmpi_slt_ofNat (by omega) (by omega)]
  exact sitofp_ofBool _

/-- The second head's lanes. -/
theorem p29 (o : Fin 1) (d : Fin 128) : k0_pay29 (F := Ideal) (ix2 o d) = if d.val < 64 then 0 else 1 := by
  pointwise [k0_pay29]
  rw [cmpi_sge_ofNat (by omega) (by omega)]
  refine (sitofp_ofBool _).trans ?_
  by_cases h : d.val < 64
  · rw [if_pos h, if_neg (by omega)]
  · rw [if_neg h, if_pos (by omega)]

/-- The matrix that sums the rows strictly after a row. -/
theorem p30 (r x : Fin 384) : k0_pay30 (F := Ideal) (ix2 r x) = if r.val < x.val then 1 else 0 := by
  pointwise [k0_pay30]
  rw [cmpi_sgt_ofNat (by omega) (by omega)]
  exact sitofp_ofBool _

theorem p31 (o : Fin 1) (c : Fin 384) : k0_pay31 (F := Ideal) (ix2 o c) = 0 := by
  pointwise [k0_pay31]

theorem p32 (d : Fin 128) (c : Fin 384) : k0_pay32 (F := Ideal) (ix2 d c) = 0 := by
  pointwise [k0_pay32]

/-- The block that is stored is the accumulator transposed. -/
theorem p11 (acc : FVec Ideal S128x384 .f32) (c : Fin 384) (d : Fin 128) : k0_pay11 acc (ix2 c d) = acc (ix2 d c) := by
  pointwise [k0_pay11]

end Cert.KernelIdeal.Sb
-- ==== Proof.Sb.Chunk.lean ====
/- The stick-breaking recurrence of one query over the extended reals, with no arrays: walking the keys from the last
   chunk to the first, a carry of the logs of one minus the logistic function and an accumulator of weighted values are
   the sums over the keys walked so far. -/
module

public import proofs.«01_k».proof.Proof.Sb.Payload

@[expose] public section

noncomputable section

namespace Cert.KernelIdeal.Sb

open Cert.KernelIdeal Cert.KernelIdeal.Gen Idealize.ShloMosaic

/-- The log of the logistic function at a real number. -/
def lsmR (z : ℝ) : ℝ := min z 0 - Real.log (1 + Real.exp (-|z|))

theorem max_neg_coe (z : ℝ) : max (z : EReal) (-(z : EReal)) = ((|z| : ℝ) : EReal) := by
  rw [← EReal.coe_neg]; exact (EReal.coe_strictMono.monotone.map_max (a := z) (b := -z)).symm

theorem log1p_exp_coe (y : ℝ) : Ideal.log1p (Ideal.exp (y : EReal)) = ((Real.log (1 + Real.exp y) : ℝ) : EReal) := by
  have h : ¬ (1 + Real.exp y ≤ 0) := by have := Real.exp_pos y; linarith
  show Ideal.log (1 + ((Real.exp y : ℝ) : EReal)) = _
  rw [← EReal.coe_one, ← EReal.coe_add]
  show (if 1 + Real.exp y ≤ 0 then ⊥ else _) = _
  rw [if_neg h]

theorem lsm_coe (z : ℝ) : lsm (z : EReal) = ((lsmR z : ℝ) : EReal) := by
  unfold lsm lsmR
  rw [max_neg_coe, ← EReal.coe_zero, ← EReal.coe_sub, zero_sub, log1p_exp_coe, EReal.coe_sub]
  congr 1

theorem lb_coe (z : ℝ) : lb (z : EReal) = ((lsmR z - z : ℝ) : EReal) := by
  unfold lb; rw [lsm_coe, ← EReal.coe_sub]

/-- What key `j` adds to the carry of the query at position `Q` with scores `z`. -/
def LL (z : ℕ → ℝ) (Q j : ℕ) : EReal := if j < Q then lb (z j : EReal) else 0

/-- The carry over the keys from `n` on, of `N`. -/
def CC (z : ℕ → ℝ) (Q N n : ℕ) : EReal := ∑ j ∈ Finset.Ico n N, LL z Q j

/-- The weight of key `k` of `N`. -/
def WW (z : ℕ → ℝ) (Q N k : ℕ) : EReal := if k < Q then Ideal.exp (lsm (z k : EReal) + CC z Q N (k + 1)) else 0

theorem LL_sub_self (z : ℕ → ℝ) (Q j : ℕ) : LL z Q j - LL z Q j = 0 := by
  unfold LL; split
  · rw [lb_coe, ← EReal.coe_sub, sub_self]; rfl
  · simp

/-- A sum over the keys from `n` on is the sum over a chunk of `w` and that from `n + w` on. -/
theorem sum_chunk (f : ℕ → EReal) {n w N : ℕ} (h : n + w ≤ N) :
    (∑ j ∈ Finset.Ico (n + w) N, f j) + ∑ r : Fin w, f (n + r.val) = ∑ j ∈ Finset.Ico n N, f j := by
  rw [← Finset.sum_Ico_consecutive f (Nat.le_add_right n w) h, add_comm, Finset.sum_Ico_eq_sum_range f n (n + w),
    Nat.add_sub_cancel_left, ← Fin.sum_univ_eq_sum_range (fun k => f (n + k))]

/-- The rows of a chunk after row `r`, picked by a 0/1 matrix, and the keys behind the chunk are the keys after `n + r`. -/
theorem between_chunk (f : ℕ → EReal) {n w N : ℕ} (h : n + w ≤ N) (r : Fin w) :
    (∑ x : Fin w, (if r.val < x.val then (1 : EReal) else 0) * f (n + x.val)) + ∑ j ∈ Finset.Ico (n + w) N, f j
      = ∑ j ∈ Finset.Ico (n + r.val + 1) N, f j := by
  have hr := r.isLt
  rw [← Finset.sum_Ico_consecutive f (show n + r.val + 1 ≤ n + w by omega) h]
  congr 1
  rw [Fin.sum_univ_eq_sum_range (fun k => (if r.val < k then (1 : EReal) else 0) * f (n + k)),
    Finset.sum_congr rfl (g := fun k => if r.val < k then f (n + k) else 0) (fun k _ => by split <;> simp),
    ← Finset.sum_filter]
  refine Finset.sum_bij (fun k _ => n + k) ?_ ?_ ?_ ?_
  · intro k hk; simp only [Finset.mem_filter, Finset.mem_range, Finset.mem_Ico] at hk ⊢; omega
  · intro a _ b _ e; omega
  · intro b hb; simp only [Finset.mem_Ico] at hb
    exact ⟨b - n, by simp only [Finset.mem_filter, Finset.mem_range]; omega, by omega⟩
  · intro k _; rfl

section Step
variable {mk : FVec Ideal S1x128 .bf16} {q ks vs : FVec Ideal S384x128 .bf16} {V : Fin 384 → Fin 384 → Prop}
  [∀ r c, Decidable (V r c)] {carry : FVec Ideal S1x384 .f32} {c : Fin 384} {z : ℕ → ℝ} {Q N n : ℕ}

theorem Lc_eq (hz : ∀ r : Fin 384, zz mk q ks r c = (z (n + r.val) : EReal)) (hV : ∀ r : Fin 384, V r c ↔ n + r.val < Q)
    (r : Fin 384) : Lc mk q ks V r c = LL z Q (n + r.val) := by
  unfold Lc LL; rw [hz]; simp only [hV]

/-- The carry after a chunk. -/
theorem carry_step (hz : ∀ r : Fin 384, zz mk q ks r c = (z (n + r.val) : EReal))
    (hV : ∀ r : Fin 384, V r c ↔ n + r.val < Q) (hN : n + 384 ≤ N) (hc : carry (ix2 0 c) = CC z Q N (n + 384)) :
    carry (ix2 0 c) + ∑ r : Fin 384, Lc mk q ks V r c = CC z Q N n := by
  rw [hc]; simp only [Lc_eq hz hV]; exact sum_chunk _ hN

/-- The weights of a chunk. -/
theorem wt_step (hz : ∀ r : Fin 384, zz mk q ks r c = (z (n + r.val) : EReal))
    (hV : ∀ r : Fin 384, V r c ↔ n + r.val < Q) (hN : n + 384 ≤ N) (hc : carry (ix2 0 c) = CC z Q N (n + 384)) (r : Fin 384) :
    wt (k0_pay30 (F := Ideal)) mk q ks V carry r c = WW z Q N (n + r.val) := by
  unfold wt WW
  simp only [Lc_eq hz hV, hz, hV, p30, LL_sub_self, mul_zero, Finset.sum_const_zero, add_zero, hc]
  unfold CC
  rw [between_chunk (LL z Q) hN r]

end Step

end Cert.KernelIdeal.Sb
-- ==== Proof.Sb.Block.lean ====
/- What one grid point of the stick-breaking kernel stores: the walk over the chunks keeps an invariant on the two
   heads' carries and the accumulator, and at the first chunk the accumulator holds the attention of the point's queries. -/
module

public import proofs.«01_k».proof.Proof.Gen.KernelIdeal.Value
public import Idealize.ShloMosaic.Lib.LoopRemainder
public import proofs.«01_k».proof.Proof.Sb.Chunk

@[expose] public section

set_option maxRecDepth 16384

noncomputable section

namespace Cert.KernelIdeal.Sb

open Cert.KernelIdeal Cert.KernelIdeal.Gen Idealize.ShloMosaic Idealize.ShloMosaic.TcCoe Idealize.SL.Sem

/-- Row `n` of a sequence's block, zero past its end. -/
def row (x : FVec Ideal S4224x128 .bf16) (n : ℕ) (d : Fin 128) : EReal := if h : n < 4224 then x (ix2 ⟨n, h⟩ d) else 0

/-- The score of key `k` of the sequence with the block's query `c`, over the lanes that `mk` keeps. -/
def sc (mk : FVec Ideal S1x128 .bf16) (x0 : FVec Ideal S384x128 .bf16) (x1 : FVec Ideal S4224x128 .bf16) (c : Fin 384) (k : ℕ) : EReal :=
  ∑ x : Fin 128, row x1 k x * mk (ix2 0 x) * x0 (ix2 c x)

/-- A chunk loaded at row `n` holds the rows from `n` on. -/
theorem ld_row (x : FVec Ideal S4224x128 .bf16) (off : Fin 2 → ℕ) (inb : ∀ a, off a + S384x128.size a ≤ S4224x128.size a)
    {n : ℕ} (h : off = ![n, 0]) (r : Fin 384) (d : Fin 128) :
    (View.ld (Val := Elt Ideal) (e' := .bf16) x (Rect.unit (s := S4224x128) off S384x128.size inb) : FVec Ideal S384x128 .bf16) (ix2 r d)
      = row x (n + r.val) d := by
  subst h
  have hn : n + r.val < 4224 := by have := inb 0; have h2 : n + 384 ≤ 4224 := this; omega
  rw [row, dif_pos hn]
  refine congrArg x (funext fun a => Fin.ext ?_)
  fin_cases a
  · show n + 1 * r.val = _; rw [Nat.one_mul]; rfl
  · show 0 + 1 * d.val = _; rw [Nat.one_mul, Nat.zero_add]; rfl

section
variable (x0 : FVec Ideal S384x128 .bf16) (x1 x2 : FVec Ideal S4224x128 .bf16) (z0 z1 : Fin 384 → ℕ → ℝ) (q0 : ℕ)

/-- The scores of lane `d`'s head. -/
def zs (d : Fin 128) (c : Fin 384) : ℕ → ℝ := if d.val < 64 then z0 c else z1 c

/-- What the walk holds when it has taken in the keys from `n` on. -/
def Inv (n : ℕ) (st : FVec Ideal S1x384 .f32 × FVec Ideal S1x384 .f32 × FVec Ideal S128x384 .f32) : Prop :=
  ∀ c : Fin 384, st.1 (ix2 0 c) = CC (z0 c) (q0 + c.val) 4224 n ∧ st.2.1 (ix2 0 c) = CC (z1 c) (q0 + c.val) 4224 n
    ∧ ∀ d : Fin 128, st.2.2 (ix2 d c) = ∑ k ∈ Finset.Ico n 4224, row x2 k d * WW (zs z0 z1 d c) (q0 + c.val) 4224 k

variable {x0 x1 x2 z0 z1 q0}
variable (h0 : ∀ c k, k < 4224 → sc (k0_pay28 (F := Ideal)) x0 x1 c k = (z0 c k : EReal))
  (h1 : ∀ c k, k < 4224 → sc (k0_pay29 (F := Ideal)) x0 x1 c k = (z1 c k : EReal))
include h0 h1

/-- One chunk keeps the invariant. -/
theorem inv_step {n : ℕ} (hn : n + 384 ≤ 4224) {ks vs : FVec Ideal S384x128 .bf16} (hks : ∀ r d, ks (ix2 r d) = row x1 (n + r.val) d)
    (hvs : ∀ r d, vs (ix2 r d) = row x2 (n + r.val) d) {V : Fin 384 → Fin 384 → Prop} [∀ r c, Decidable (V r c)]
    (hV : ∀ r c : Fin 384, V r c ↔ n + r.val < q0 + c.val)
    {st st' : FVec Ideal S1x384 .f32 × FVec Ideal S1x384 .f32 × FVec Ideal S128x384 .f32} (hst : Inv x2 z0 z1 q0 (n + 384) st)
    (e0 : ∀ c, st'.1 (ix2 0 c) = st.1 (ix2 0 c) + ∑ r : Fin 384, Lc (k0_pay28 (F := Ideal)) x0 ks V r c)
    (e1 : ∀ c, st'.2.1 (ix2 0 c) = st.2.1 (ix2 0 c) + ∑ r : Fin 384, Lc (k0_pay29 (F := Ideal)) x0 ks V r c)
    (e2 : ∀ d c, st'.2.2 (ix2 d c) = (st.2.2 (ix2 d c)
      + ∑ r : Fin 384, vs (ix2 r d) * k0_pay28 (F := Ideal) (ix2 0 d) * wt (k0_pay30 (F := Ideal)) (k0_pay28 (F := Ideal)) x0 ks V st.1 r c)
      + ∑ r : Fin 384, vs (ix2 r d) * k0_pay29 (F := Ideal) (ix2 0 d) * wt (k0_pay30 (F := Ideal)) (k0_pay29 (F := Ideal)) x0 ks V st.2.1 r c) :
    Inv x2 z0 z1 q0 n st' := by
  intro c
  obtain ⟨i0, i1, i2⟩ := hst c
  have z0' : ∀ r : Fin 384, zz (k0_pay28 (F := Ideal)) x0 ks r c = (z0 c (n + r.val) : EReal) := fun r => by
    rw [← h0 c _ (by omega)]; simp only [zz, sc, hks]
  have z1' : ∀ r : Fin 384, zz (k0_pay29 (F := Ideal)) x0 ks r c = (z1 c (n + r.val) : EReal) := fun r => by
    rw [← h1 c _ (by omega)]; simp only [zz, sc, hks]
  refine ⟨(e0 c).trans (carry_step z0' (fun r => hV r c) hn i0), (e1 c).trans (carry_step z1' (fun r => hV r c) hn i1), fun d => ?_⟩
  rw [e2 d c, i2 d]
  simp only [wt_step z0' (fun r => hV r c) hn i0, wt_step z1' (fun r => hV r c) hn i1, p28, p29, hvs]
  rw [← sum_chunk (fun k => row x2 k d * WW (zs z0 z1 d c) (q0 + c.val) 4224 k) hn]
  by_cases hd : d.val < 64 <;> simp only [zs, hd, if_true, if_false, mul_one, mul_zero, zero_mul, Finset.sum_const_zero, add_zero]

end

/-- Before the walk nothing has been taken in: the keys past the block of queries count for none of them. -/
theorem inv_init (x2 : FVec Ideal S4224x128 .bf16) (z0 z1 : Fin 384 → ℕ → ℝ) (q0 : ℕ) :
    Inv x2 z0 z1 q0 (q0 + 384) (k0_pay31 (F := Ideal), k0_pay31 (F := Ideal), k0_pay32 (F := Ideal)) := by
  intro c
  have hL : ∀ z : ℕ → ℝ, CC z (q0 + c.val) 4224 (q0 + 384) = 0 := fun z =>
    Finset.sum_eq_zero fun j hj => if_neg (by rw [Finset.mem_Ico] at hj; omega)
  refine ⟨(p31 0 c).trans (hL _).symm, (p31 0 c).trans (hL _).symm, fun d => (p32 d c).trans (Finset.sum_eq_zero fun j hj => ?_).symm⟩
  rw [WW, if_neg (by rw [Finset.mem_Ico] at hj; omega), mul_zero]

/-! ## The loop's words -/

theorem trips1 : ∀ i : grid0.Coords, (k0_t1_loop i).trips = (i 2).val := by decide +kernel

theorem off2 : ∀ (i : grid0.Coords) (k : Fin (k0_t1_loop i).trips), k0_off2 i k = ![384 * ((i 2).val - 1 - k.val), 0] := by
  decide +kernel

section
variable (𝒱 : Variants) (c : Dev nD) (bd : Option 𝒱.V) (i : grid0.Coords) (arg3 : Memref sig .tc .vmem S384x128 .bf16) (harg3 : arg3.IsWhole) (arg4 : Memref sig .tc .vmem S4224x128 .bf16) (harg4 : arg4.IsWhole) (arg5 : Memref sig .tc .vmem S4224x128 .bf16) (harg5 : arg5.IsWhole) (arg6 : Memref sig .tc .vmem S384x128 .bf16) (harg6 : arg6.IsWhole)
  (x0 : FVec Ideal S384x128 .bf16) (x1 x2 : FVec Ideal S4224x128 .bf16)

/-- The chunk that trip `k` loads of a sequence's block. -/
abbrev chunk (x : FVec Ideal S4224x128 .bf16) (k : Fin (k0_t1_loop i).trips) : FVec Ideal S384x128 .bf16 :=
  View.ld (Val := Elt Ideal) (e' := .bf16) x (Rect.unit (s := S4224x128) (k0_off2 i k) S384x128.size (k0_off2_inb i k))

/-- The chunk of the queries' own rows. -/
abbrev chunk0 (x : FVec Ideal S4224x128 .bf16) : FVec Ideal S384x128 .bf16 :=
  View.ld (Val := Elt Ideal) (e' := .bf16) x (Rect.unit (s := S4224x128) (k0_off1 i) S384x128.size (k0_off1_inb i))

/-- One trip's words, over the chunks it loads. -/
theorem trip_eq (arg2 : BitVec 32) (v6 v11 : FVec Ideal S1x128 .bf16) (v17 : FVec Ideal S384x384 .bf16) (k : Fin (k0_t1_loop i).trips)
    (st : FVec Ideal S1x384 .f32 × FVec Ideal S1x384 .f32 × FVec Ideal S128x384 .f32) :
    tripR_k0_t1 (F := Ideal) 𝒱 c bd i arg3 harg3 arg4 harg4 arg5 harg5 arg6 harg6 arg2 x0 v6 v11 v17 (harg4.unread x1) (harg5.unread x2) k st
      = (k0_pay16 x0 v6 st.1 (chunk i x1 k),
         k0_pay6 st.2.1 (k0_pay17 x0 v11 (chunk i x1 k)) (k0_pay18 x0 v11 (chunk i x1 k)) (k0_pay19 x0 v11 (chunk i x1 k)) (Scalar.ofBits .f32 0x00000000#32),
         k0_pay5 v11 v17 st.2.1 (chunk i x2 k) (k0_pay15 x0 v6 v17 st.1 st.2.2 (chunk i x1 k) (chunk i x2 k))
           (k0_pay17 x0 v11 (chunk i x1 k)) (k0_pay18 x0 v11 (chunk i x1 k)) (k0_pay19 x0 v11 (chunk i x1 k)) (Scalar.ofBits .f32 0x00000000#32)) := by
  unfold tripR_k0_t1 trip_k0_t1
  dsimp only
  sl_unfold_words
  simp only [View.readAt_eq_ld, harg4.read_unread, harg5.read_unread]
  rfl

variable {x0 x1 x2} {z0 z1 : Fin 384 → ℕ → ℝ}
  (h0 : ∀ c k, k < 4224 → sc (k0_pay28 (F := Ideal)) x0 x1 c k = (z0 c k : EReal))
  (h1 : ∀ c k, k < 4224 → sc (k0_pay29 (F := Ideal)) x0 x1 c k = (z1 c k : EReal))
include h0 h1

theorem i2_lt (i : grid0.Coords) : (i 2).val < 11 := (i 2).isLt

/-- The walk over the chunks before the queries' own keeps the invariant. -/
theorem inv_loop (arg2 : BitVec 32) {init : FVec Ideal S1x384 .f32 × FVec Ideal S1x384 .f32 × FVec Ideal S128x384 .f32}
    (hi : Inv x2 z0 z1 (384 * (i 2).val) (384 * (i 2).val) init) (k : ℕ) (hk : k ≤ (k0_t1_loop i).trips) :
    Inv x2 z0 z1 (384 * (i 2).val) (384 * ((i 2).val - k))
      (st_k0_t1 (F := Ideal) 𝒱 c bd i arg3 harg3 arg4 harg4 arg5 harg5 arg6 harg6 arg2 x0 (k0_pay28 (F := Ideal)) (k0_pay29 (F := Ideal))
        (k0_pay30 (F := Ideal)) (harg4.unread x1) (harg5.unread x2) init k) := by
  induction k with
  | zero => rw [st_k0_t1_zero]; exact hi
  | succ k ih =>
    have hk' : k < (k0_t1_loop i).trips := hk
    have hlt := i2_lt h0 h1 i
    have ht := trips1 i
    have e := st_k0_t1_succ (F := Ideal) 𝒱 c bd i arg3 harg3 arg4 harg4 arg5 harg5 arg6 harg6 arg2 x0 (k0_pay28 (F := Ideal)) (k0_pay29 (F := Ideal))
        (k0_pay30 (F := Ideal)) (harg4.unread x1) (harg5.unread x2) init ⟨k, hk'⟩
    rw [show k + 1 = (⟨k, hk'⟩ : Fin (k0_t1_loop i).trips).val + 1 from rfl, e, trip_eq]
    have ih' := ih (Nat.le_of_lt hk')
    rw [show 384 * ((i 2).val - k) = 384 * ((i 2).val - 1 - k) + 384 by omega] at ih'
    show Inv x2 z0 z1 _ (384 * ((i 2).val - (k + 1))) _
    rw [show 384 * ((i 2).val - (k + 1)) = 384 * ((i 2).val - 1 - k) by omega]
    refine inv_step h0 h1 (V := all) (ks := chunk i x1 ⟨k, hk'⟩) (vs := chunk i x2 ⟨k, hk'⟩) (by omega)
      (fun r d => ld_row x1 _ (k0_off2_inb i ⟨k, hk'⟩) (off2 i ⟨k, hk'⟩) r d)
      (fun r d => ld_row x2 _ (k0_off2_inb i ⟨k, hk'⟩) (off2 i ⟨k, hk'⟩) r d) (fun r c => ⟨fun _ => by omega, fun _ => trivial⟩) ih' ?_ ?_ ?_
    · intro c; exact p16 ..
    · intro c; exact p6 ..
    · intro d c; rw [← p15]; exact p5 ..

/-- WHAT A GRID POINT STORES: row `c`, lane `d` of the block is the sum over the sequence's keys of their weights,
from the scores of the lane's head, times the values' lane. -/
theorem out_eq (c : Dev nD) (r : Fin 384) (d : Fin 128) :
    out0_A_3 (F := Ideal) c i arg3 harg3 arg4 harg4 arg5 harg5 arg6 harg6 x0 x1 x2 (ix2 r d)
      = ∑ k ∈ Finset.Ico 0 4224, row x2 k d * WW (zs z0 z1 d r) (384 * (i 2).val + r.val) 4224 k := by
  have ht2 : ∀ a x : BitVec 32, Scf.trips (Scalar.addi a (Scalar.muli (Scalar.divsi x 1#32) 1#32)) (Scalar.addi a x) 1#32 = 0 := Scf.rem_trips
  have ht := trips1 i
  have hlt := i2_lt h0 h1 i
  frame_out
  rw [ht2, st_k0_t2_zero]
  dsimp only
  refine (p11 _ r d).trans ?_
  have hinit : Inv x2 z0 z1 (384 * (i 2).val) (384 * (i 2).val) _ :=
    inv_step h0 h1 (V := before) (ks := chunk0 i x1) (vs := chunk0 i x2)
      (st := (k0_pay31 (F := Ideal), k0_pay31 (F := Ideal), k0_pay32 (F := Ideal))) (by omega)
      (fun r d => ld_row x1 _ (k0_off1_inb i) (k0_off1_eq i) r d)
      (fun r d => ld_row x2 _ (k0_off1_inb i) (k0_off1_eq i) r d) (fun r c => by show r.val < c.val ↔ _; omega)
      (inv_init x2 z0 z1 _) (st' := (k0_pay40 (k0_pay31 (F := Ideal)) (k0_pay36 x0 (chunk0 i x1)),
        k0_pay2 (k0_pay31 (F := Ideal)) (k0_pay44 x0 (k0_pay29 (F := Ideal)) (iota .tc S384x384 32 [0] iota_S384x384_d0_w32)
          (iota .tc S384x384 32 [1] iota_S384x384_d1_w32) (chunk0 i x1)), k0_pay1 (k0_pay39 (k0_pay28 (F := Ideal)) (k0_pay30 (F := Ideal)) (k0_pay31 (F := Ideal)) (k0_pay32 (F := Ideal))
          (chunk0 i x2) (k0_pay34 x0 (chunk0 i x1)) k0_pay35 (k0_pay37 x0 (chunk0 i x1)) (k0_pay38 x0 (chunk0 i x1)))
        (k0_pay45 x0 (k0_pay29 (F := Ideal)) (iota .tc S384x384 32 [0] iota_S384x384_d0_w32) (iota .tc S384x384 32 [1] iota_S384x384_d1_w32)
          (k0_pay30 (F := Ideal)) (k0_pay31 (F := Ideal)) (chunk0 i x1))
        (k0_pay46 (k0_pay29 (F := Ideal)) (chunk0 i x2)))) (fun c => p40 ..) (fun c => p2 ..) (fun d c => (p1 x0 (chunk0 i x1) (chunk0 i x2) (k0_pay29 (F := Ideal)) (k0_pay30 (F := Ideal)) (k0_pay31 (F := Ideal)) _ d c).trans
        (congrArg (· + _) (p39 x0 (chunk0 i x1) (chunk0 i x2) (k0_pay30 (F := Ideal)) (k0_pay31 (F := Ideal)) (k0_pay32 (F := Ideal)) d c)))
  have := (inv_loop (𝒱 := Variants.none) (c := c) (bd := none) (i := i) (arg3 := arg3) (harg3 := harg3) (arg4 := arg4) (harg4 := harg4)
    (arg5 := arg5) (harg5 := harg5) (arg6 := arg6) (harg6 := harg6) h0 h1 (BitVec.ofNat 32 (i 2).val) hinit (k0_t1_loop i).trips le_rfl r).2.2 d
  rw [show (i 2).val - (k0_t1_loop i).trips = 0 by omega] at this
  exact this

end

end Cert.KernelIdeal.Sb
-- ==== Proof.Sb.Reference.lean ====
/- What the reference's host operations hold at an index, over the extended reals: the score of a query and a key, the
   logs of the logistic function, the sum over the later keys, and the weighted sum of the values. -/
module

public import proofs.«01_k».proof.Proof.Sb.Chunk
public import proofs.«01_k».proof.Proof.Gen.ReferenceIdeal.Read

@[expose] public section

set_option maxRecDepth 16384

noncomputable section

namespace Cert.ReferenceIdeal.Sb

open Cert.ReferenceIdeal Cert.ReferenceIdeal.Gen Cert.ReferenceIdeal.Read Idealize.ShloMosaic Idealize.ShloMosaic.TcCoe
open Cert.KernelIdeal.Sb (lsm lb lsmR lsm_coe lb_coe log1p_exp_coe LL CC WW)

local notation "Arr" => FVec Ideal (⟨2, ![33792, 6656]⟩ : Shape) FTy.bf16

/-- The argument at row `r` and column `c`, zero outside. -/
def at2 (X : Arr) (r c : ℕ) : EReal :=
  if h : r < 33792 ∧ c < 6656 then X (ix2 ⟨r, h.1⟩ ⟨c, h.2⟩) else 0

theorem at2_of (X : Arr) (i : S33792x6656.Idx) : X i = at2 X (i 0).val (i 1).val := by
  have h0 : (i 0).val < 33792 := (i 0).isLt
  have h1 : (i 1).val < 6656 := (i 1).isLt
  unfold at2
  rw [dif_pos ⟨h0, h1⟩]
  exact congrArg X (funext fun a => by match a with | ⟨0, _⟩ => rfl | ⟨1, _⟩ => rfl)

/-- The score of query `Q` and key `k` in batch `b` and head `h`. -/
def SS (X : Arr) (b h Q k : ℕ) : EReal :=
  ∑ x : Fin 64, at2 X (4224 * b + Q) (3072 + 64 * h + x.val) * at2 X (4224 * b + k) (3328 + 64 * h + x.val)

theorem score (X : Arr) (i : S8x4x4224x4224.Idx) :
    val_main_v9 (F := Ideal) X i = SS X (i 0).val (i 1).val (i 2).val (i 3).val := by
  have h0 : (i 0).val < 8 := (i 0).isLt
  have h1 : (i 1).val < 4 := (i 1).isLt
  have h2 : (i 2).val < 4224 := (i 2).isLt
  have h3 : (i 3).val < 4224 := (i 3).isLt
  rw [val_main_v9_apply]
  unfold SS
  refine Finset.sum_congr rfl fun x _ => ?_
  have hx := x.isLt
  simp only [val_main_v3_apply, val_main_v2_apply, val_main_v1_apply, val_main_v0_apply, val_main_v5_apply, val_main_v4_apply]
  refine congrArg₂ _ ((at2_of X _).trans ?_) ((at2_of X _).trans ?_)
  · congr 1 <;> dsimp only <;> omega
  · congr 1 <;> dsimp only <;> omega

theorem value (X : Arr) (i : S8x4224x4x64.Idx) :
    val_main_v7 (F := Ideal) X i = at2 X (4224 * (i 0).val + (i 1).val) (3584 + 64 * (i 2).val + (i 3).val) := by
  have h0 : (i 0).val < 8 := (i 0).isLt
  have h1 : (i 1).val < 4224 := (i 1).isLt
  have h2 : (i 2).val < 4 := (i 2).isLt
  have h3 : (i 3).val < 64 := (i 3).isLt
  simp only [val_main_v7_apply, val_main_v6_apply, val_main_v1_apply, val_main_v0_apply]
  refine (at2_of X _).trans ?_
  congr 1 <;> dsimp only <;> omega

theorem mask (i : S4224x4224.Idx) :
    val_main_v14 (F := Ideal) i = BitVec.ofBool (decide ((i 1).val < (i 0).val)) := by
  have h0 : (i 0).val < 4224 := (i 0).isLt
  have h1 : (i 1).val < 4224 := (i 1).isLt
  simp only [val_main_v14_apply, val_main_v13_apply, val_main_v12_apply, val_main_v11_apply, val_main_v10_apply,
    val_main_v8_apply]
  exact WordCmp.cmpi_slt_ofNat (by show (i 1).val < _; omega) (by show (i 0).val < _; omega)

/-- jax's softplus of one number, as the host prints it, which guards against a number that is no number. -/
def spl (y : EReal) : EReal :=
  Scalar.select
    (FloatOps.cmpf (F := Ideal) (φ := .f32) CmpFPredicate.une
      (FloatOps.subf (F := Ideal) (φ := .f32) y (FloatOps.ofBits (F := Ideal) FTy.f32 0#32))
      (FloatOps.subf (F := Ideal) (φ := .f32) y (FloatOps.ofBits (F := Ideal) FTy.f32 0#32)))
    (FloatOps.addf (F := Ideal) (φ := .f32) y (FloatOps.ofBits (F := Ideal) FTy.f32 0#32))
    (FloatOps.addf (F := Ideal) (φ := .f32)
      (FloatOps.maximumf (F := Ideal) (φ := .f32) y (FloatOps.ofBits (F := Ideal) FTy.f32 0#32))
      (FloatOps.hostUnary (F := Ideal) (φ := .f32) HostUnaryOp.log1p
        (FloatOps.hostUnary (F := Ideal) (φ := .f32) HostUnaryOp.exp
          (FloatOps.hostNegf (F := Ideal) (φ := .f32) (FloatOps.hostAbsf (F := Ideal) (φ := .f32)
            (FloatOps.subf (F := Ideal) (φ := .f32) y (FloatOps.ofBits (F := Ideal) FTy.f32 0#32)))))))

theorem spl_coe (y : ℝ) : spl (y : EReal) = ((max y 0 + Real.log (1 + Real.exp (-|y|)) : ℝ) : EReal) := by
  have hz : (FloatOps.ofBits (F := Ideal) FTy.f32 0#32 : EReal) = 0 := Ideal.ofBits_zero _
  have hc : FloatOps.cmpf (F := Ideal) (φ := .f32) CmpFPredicate.une (y : EReal) (y : EReal) = 0#1 := by
    show BitVec.ofBool (decide ((y : EReal) ≠ y)) = _
    simp
  have hs : FloatOps.subf (F := Ideal) (φ := .f32) (y : EReal) (0 : EReal) = (y : EReal) := by
    show (y : EReal) - 0 = y
    simp
  unfold spl
  rw [hz, hs, hc]
  show max (y : EReal) 0 + Ideal.log1p (Ideal.exp (-(max (y : EReal) (-(y : EReal))))) = _
  rw [Cert.KernelIdeal.Sb.max_neg_coe, ← EReal.coe_neg, log1p_exp_coe, EReal.coe_add]
  congr 1

theorem lsmR_eq (s : ℝ) : -(max s 0 + Real.log (1 + Real.exp (-|s|))) = lsmR s - s := by
  unfold lsmR
  have := max_add_min s 0
  linarith

theorem logsig_neg (X : Arr) (i : S8x4x4224x4224.Idx) (s : ℝ) (hs : val_main_v9 (F := Ideal) X i = (s : EReal)) :
    val_main_v16 (F := Ideal) X i = lb (s : EReal) := by
  simp only [val_main_v16_apply, val_main_call0_v1_apply, val_main_call0_call0_v1_apply, val_main_call0_call0_v0_apply,
    val_main_call0_call0_v2_apply, val_main_call0_call0_v3_apply, val_main_call0_call0_v4_apply, val_main_call0_call0_v5_apply,
    val_main_call0_call0_v6_apply, val_main_call0_call0_v7_apply, val_main_call0_call0_v8_apply, val_main_call0_call0_v9_apply,
    val_main_call0_call0_v10_apply, val_main_call0_call0_v11_apply, val_main_call0_v0_apply, val_main_v15_apply, hs,
    val_main_call0_call0_cst_apply]
  have hy : FloatOps.hostNegf (F := Ideal) (φ := .f32) (FloatOps.hostNegf (F := Ideal) (φ := .f32) (s : EReal)) = (s : EReal) :=
    neg_neg (s : EReal)
  rw [hy]
  show -(spl (s : EReal)) = _
  rw [spl_coe, ← EReal.coe_neg, lsmR_eq, lb_coe]

theorem logsig (X : Arr) (i : S8x4x4224x4224.Idx) (s : ℝ) (hs : val_main_v9 (F := Ideal) X i = (s : EReal)) :
    val_main_v20 (F := Ideal) X i = lsm (s : EReal) := by
  simp only [val_main_v20_apply, val_main_call3_v1_apply, val_main_call3_call0_v1_apply, val_main_call3_call0_v0_apply,
    val_main_call3_call0_v2_apply, val_main_call3_call0_v3_apply, val_main_call3_call0_v4_apply, val_main_call3_call0_v5_apply,
    val_main_call3_call0_v6_apply, val_main_call3_call0_v7_apply, val_main_call3_call0_v8_apply, val_main_call3_call0_v9_apply,
    val_main_call3_call0_v10_apply, val_main_call3_call0_v11_apply, val_main_call3_v0_apply, hs,
    val_main_call3_call0_cst_apply]
  have hy : FloatOps.hostNegf (F := Ideal) (φ := .f32) (s : EReal) = ((-s : ℝ) : EReal) := (EReal.coe_neg s).symm
  rw [hy]
  show -(spl ((-s : ℝ) : EReal)) = _
  rw [spl_coe, ← EReal.coe_neg, lsmR_eq, lsm_coe]
  congr 1
  unfold lsmR
  rw [abs_neg]
  have := max_add_min s 0
  have h2 : min (-s) 0 = -max s 0 := by rw [← neg_zero, min_neg_neg, neg_zero]
  rw [h2]
  linarith

/-- Folding an addition over the positions of a window adds the sum over the positions. -/
theorem foldl_add (n : ℕ) (f : Fin n → EReal) (v : EReal) :
    (List.finRange n).foldl (fun r k => r + f k) v = v + ∑ k, f k := by
  have h : ∀ (l : List (Fin n)) (v : EReal), l.foldl (fun r k => r + f k) v = v + (l.map f).sum := by
    intro l
    induction l with
    | nil => intro v; simp
    | cons a l ih => intro v; rw [List.foldl_cons, ih, List.map_cons, List.sum_cons, add_assoc]
  rw [h, ← List.ofFn_eq_map, List.sum_ofFn]

section Window
variable {A B C N M : ℕ}

/-- The position of a window of one row: its last coordinate. -/
def winEquiv (N : ℕ) : (⟨4, ![1, 1, 1, N]⟩ : Shape).Idx ≃ Fin N where
  toFun w := w 3
  invFun n := ix4 0 0 0 n
  left_inv w := funext fun a => by
    match a with
    | ⟨0, _⟩ => exact (Subsingleton.elim (α := Fin 1) _ _)
    | ⟨1, _⟩ => exact (Subsingleton.elim (α := Fin 1) _ _)
    | ⟨2, _⟩ => exact (Subsingleton.elim (α := Fin 1) _ _)
    | ⟨3, _⟩ => rfl
  right_inv n := rfl

/-- The place in the window at position `n` of the fold. -/
abbrev pos (n : Fin (⟨4, ![1, 1, 1, N]⟩ : Shape).numel) : (⟨4, ![1, 1, 1, N]⟩ : Shape).Idx :=
  (⟨4, ![1, 1, 1, N]⟩ : Shape).rowMajor.symm n

/-- The row of the summed array at a key, zero past the last. -/
def tail (Y : FVec Ideal (⟨4, ![A, B, C, N]⟩ : Shape) .f32) (b : Fin A) (h : Fin B) (Q : Fin C) (k : ℕ) : EReal :=
  if hk : k < N then Y (ix4 b h Q ⟨k, hk⟩) else 0

/-- A sum over windows that begin at each element of a row and reach past its end: the sum from that element on. -/
theorem window_eq (Y : FVec Ideal (⟨4, ![A, B, C, N]⟩ : Shape) .f32) (init : FVec Ideal S_ .f32) (hu : 0 < S_.numel)
    (hinit : init (Shape.Idx.first hu) = 0)
    (hr : (⟨4, ![A, B, C, N]⟩ : Shape).ReduceWindows ![1, 1, 1, N] ![1, 1, 1, 1] ![0, 0, 0, 0] ![0, 0, 0, M] ⟨4, ![A, B, C, N]⟩)
    (b : Fin A) (h : Fin B) (Q : Fin C) (k : Fin N) :
    Host.reduceWindowAdd ![1, 1, 1, N] ![1, 1, 1, 1] ![0, 0, 0, 0] ![0, 0, 0, M] Y init hr hu (ix4 b h Q k)
      = ∑ n : Fin N, tail Y b h Q (k.val + n.val) := by
  unfold Host.reduceWindowAdd
  rw [hinit]
  refine ((foldl_add _ _ _).trans (zero_add _)).trans ?_
  refine Fintype.sum_equiv ((⟨4, ![1, 1, 1, N]⟩ : Shape).rowMajor.symm.trans (winEquiv N)) _ _ fun n => ?_
  have w0 : (pos n 0).val = 0 := by have : (pos n 0).val < 1 := (pos n 0).isLt; omega
  have w1 : (pos n 1).val = 0 := by have : (pos n 1).val < 1 := (pos n 1).isLt; omega
  have w2 : (pos n 2).val = 0 := by have : (pos n 2).val < 1 := (pos n 2).isLt; omega
  have hb := b.isLt
  have hh := h.isLt
  have hQ := Q.isLt
  show _ = tail Y b h Q (k.val + (pos n 3).val)
  unfold tail
  by_cases hk : k.val + (pos n 3).val < N
  · rw [dif_pos hk, dif_pos (fun a => by
      match a with
      | ⟨0, _⟩ => exact ⟨Nat.zero_le _, by show b.val * 1 + (pos n 0).val - 0 < A; omega⟩
      | ⟨1, _⟩ => exact ⟨Nat.zero_le _, by show h.val * 1 + (pos n 1).val - 0 < B; omega⟩
      | ⟨2, _⟩ => exact ⟨Nat.zero_le _, by show Q.val * 1 + (pos n 2).val - 0 < C; omega⟩
      | ⟨3, _⟩ => exact ⟨Nat.zero_le _, by show k.val * 1 + (pos n 3).val - 0 < N; omega⟩)]
    refine congrArg Y (funext fun a => Fin.ext ?_)
    match a with
    | ⟨0, _⟩ => show b.val * 1 + (pos n 0).val - 0 = b.val; omega
    | ⟨1, _⟩ => show h.val * 1 + (pos n 1).val - 0 = h.val; omega
    | ⟨2, _⟩ => show Q.val * 1 + (pos n 2).val - 0 = Q.val; omega
    | ⟨3, _⟩ => show k.val * 1 + (pos n 3).val - 0 = k.val + (pos n 3).val; omega
  · rw [dif_neg hk, dif_neg]
    intro hin
    have h3 : k.val * 1 + (pos n 3).val - 0 < N := (hin 3).2
    omega

end Window

/-- The masked logs of one minus the logistic function. -/
theorem masked (X : Arr) (b : Fin 8) (h : Fin 4) (Q : Fin 4224) (z : ℕ → ℝ)
    (hz : ∀ k : ℕ, k < 4224 → SS X b.val h.val Q.val k = (z k : EReal)) (k : Fin 4224) :
    val_main_v17 (F := Ideal) X (ix4 b h Q k) = LL z Q.val k.val := by
  rw [val_main_v17_apply, val_main_call1_v1_apply, mask, logsig_neg X _ (z k.val) ((score X _).trans (hz _ k.isLt)),
    val_main_call1_v2_apply, val_main_call1_v0_apply, val_main_cst_apply]
  show Scalar.select (BitVec.ofBool (decide (k.val < Q.val))) _ _ = _
  unfold LL
  by_cases hk : k.val < Q.val
  · rw [if_pos hk]; simp [hk, Scalar.select]
  · rw [if_neg hk]; simp [hk, Scalar.select]

/-- The sum over the keys after `k`. -/
theorem between (X : Arr) (b : Fin 8) (h : Fin 4) (Q : Fin 4224) (z : ℕ → ℝ)
    (hz : ∀ k : ℕ, k < 4224 → SS X b.val h.val Q.val k = (z k : EReal)) (k : Fin 4224) :
    val_main_v19 (F := Ideal) X (ix4 b h Q k) = CC z Q.val 4224 (k.val + 1) := by
  rw [val_main_v19_apply, masked X b h Q z hz k]
  unfold val_main_v18
  rw [window_eq _ _ h_S_ (by rw [val_main_call2_v0_apply, val_main_call2_cst_apply]; exact Ideal.ofBits_zero _)]
  have hk := k.isLt
  have ht : ∀ j : ℕ, tail (val_main_v17 (F := Ideal) X) b h Q j = if j < 4224 then LL z Q.val j else 0 := by
    intro j
    unfold tail
    split
    · rw [masked X b h Q z hz]
    · rfl
  have e : (∑ n : Fin 4224, tail (val_main_v17 (F := Ideal) X) b h Q (k.val + n.val)) = LL z Q.val k.val + CC z Q.val 4224 (k.val + 1) := by
    unfold CC
    rw [← Finset.sum_eq_sum_Ico_succ_bot hk, Fin.sum_univ_eq_sum_range (fun n => tail (val_main_v17 (F := Ideal) X) b h Q (k.val + n)) 4224,
      Finset.sum_Ico_eq_sum_range]
    refine (Finset.sum_subset (s₁ := Finset.range (4224 - k.val)) (Finset.range_mono (Nat.sub_le _ _)) fun j _ hj => ?_).symm.trans ?_
    · rw [ht, if_neg]
      simp only [Finset.mem_range, not_lt] at hj
      omega
    · refine Finset.sum_congr rfl fun j hj => ?_
      rw [Finset.mem_range] at hj
      rw [ht, if_pos (by omega)]
  rw [e]
  show LL z Q.val k.val + _ - LL z Q.val k.val = _
  unfold LL
  split
  · rw [lb_coe, add_comm, EReal.add_sub_cancel_right]
  · simp

/-- The weight of a key. -/
theorem weight (X : Arr) (b : Fin 8) (h : Fin 4) (Q : Fin 4224) (z : ℕ → ℝ)
    (hz : ∀ k : ℕ, k < 4224 → SS X b.val h.val Q.val k = (z k : EReal)) (k : Fin 4224) :
    val_main_v23 (F := Ideal) X (ix4 b h Q k) = WW z Q.val 4224 k.val := by
  rw [val_main_v23_apply, val_main_call4_v1_apply, mask, val_main_v22_apply, val_main_v21_apply,
    logsig X _ (z k.val) ((score X _).trans (hz _ k.isLt)), between X b h Q z hz k,
    val_main_call4_v2_apply, val_main_call4_v0_apply, val_main_cst_0_apply]
  show Scalar.select (BitVec.ofBool (decide (k.val < Q.val))) _ _ = _
  unfold WW
  by_cases hk : k.val < Q.val
  · rw [if_pos hk]; simp [hk, Scalar.select]
  · rw [if_neg hk]; simp [hk, Scalar.select]

/-- The result at query `Q` of batch `b`, lane `d` of head `h`. -/
theorem result (X : Arr) (b : Fin 8) (h : Fin 4) (Q : Fin 4224) (d : Fin 64) (z : ℕ → ℝ)
    (hz : ∀ k : ℕ, k < 4224 → SS X b.val h.val Q.val k = (z k : EReal)) (i : S33792x256.Idx)
    (hi0 : (i 0).val = 4224 * b.val + Q.val) (hi1 : (i 1).val = 64 * h.val + d.val) :
    val_main_v27 (F := Ideal) X i
      = ∑ k ∈ Finset.Ico 0 4224, at2 X (4224 * b.val + k) (3584 + 64 * h.val + d.val) * WW z Q.val 4224 k := by
  have hb := b.isLt
  have hh := h.isLt
  have hQ := Q.isLt
  have hd := d.isLt
  rw [val_main_v27_apply, val_main_v26_apply, val_main_v25_apply]
  show val_main_v24 (F := Ideal) X _ = _
  rw [val_main_v24_apply, Nat.Ico_zero_eq_range,
    ← Fin.sum_univ_eq_sum_range (fun k => at2 X (4224 * b.val + k) (3584 + 64 * h.val + d.val) * WW z Q.val 4224 k)]
  refine Finset.sum_congr rfl fun k _ => congrArg₂ _ ?_ ?_
  · rw [value]
    congr 1 <;> dsimp only <;> omega
  · rw [← weight X b h Q z hz k]
    refine congrArg _ (funext fun a => Fin.ext ?_)
    match a with
    | ⟨0, _⟩ => show ((i 0).val * 256 + (i 1).val) / 1081344 = b.val; omega
    | ⟨1, _⟩ => show ((i 0).val * 256 + (i 1).val) / 64 % 4 = h.val; omega
    | ⟨2, _⟩ => show ((i 0).val * 256 + (i 1).val) / 256 % 4224 = Q.val; omega
    | ⟨3, _⟩ => rfl

end Cert.ReferenceIdeal.Sb

end
-- ==== Proof.Sb.Equation.lean ====
/- The stick-breaking kernel's result array is the reference's: what a grid point stores, at the blocks that the windows
   cut out of the argument, is the reference at the block's place. -/
module

public import proofs.«01_k».proof.Pre_finite
public import proofs.«01_k».proof.Proof.Sb.Block
public import proofs.«01_k».proof.Proof.Sb.Reference
public import proofs.«01_k».proof.Proof.Gen.KernelIdeal.Value

@[expose] public section

set_option maxRecDepth 16384

noncomputable section

namespace Cert.KernelIdeal.Sb

open Cert.KernelIdeal Cert.KernelIdeal.Gen Idealize.ShloMosaic Idealize.ShloMosaic.TcCoe Idealize.SL.Sem
open Cert.ReferenceIdeal.Sb (at2 at2_of SS)

variable (m : (ℓ : Loc nD τ sig) → Buf (Elt Ideal) ℓ)

theorem idx0 : ∀ t : Fin cfg0.N, win0_0.index t = ![(grid0.coords t 0).val * 11 + (grid0.coords t 2).val, 24 + (grid0.coords t 1).val] :=
  (by decide +kernel : ∀ t : Fin grid0.N, _)
theorem idx1 : ∀ t : Fin cfg0.N, win0_1.index t = ![(grid0.coords t 0).val, 26 + (grid0.coords t 1).val] :=
  (by decide +kernel : ∀ t : Fin grid0.N, _)
theorem idx2 : ∀ t : Fin cfg0.N, win0_2.index t = ![(grid0.coords t 0).val, 28 + (grid0.coords t 1).val] :=
  (by decide +kernel : ∀ t : Fin grid0.N, _)
theorem idx3 : ∀ t : Fin cfg0.N, win0_3.index t = ![(grid0.coords t 0).val * 11 + (grid0.coords t 2).val, (grid0.coords t 1).val] :=
  (by decide +kernel : ∀ t : Fin grid0.N, _)

/-- The argument of core `c`. -/
abbrev arg (c : Dev nD) : FVec Ideal (⟨2, ![33792, 6656]⟩ : Shape) FTy.bf16 := m ((c : Thread nD τ).loc main_arg0)

/-- A query block's entry in the argument. -/
theorem q_at (c : Dev nD) (t : Fin cfg0.N) (r : Fin 384) (d : Fin 128) :
    iblk m c 0 t (ix2 r d) = at2 (arg m c) (4224 * (grid0.coords t 0).val + (384 * (grid0.coords t 2).val + r.val))
      (3072 + 128 * (grid0.coords t 1).val + d.val) := by
  blk_simp [iblk, V, idx0 t]
  refine (at2_of (arg m c) _).trans ?_
  congr 1 <;> blk_simp [idx0 t] <;> omega

theorem k_at (c : Dev nD) (t : Fin cfg0.N) (k : ℕ) (hk : k < 4224) (d : Fin 128) :
    row (iblk m c 1 t) k d = at2 (arg m c) (4224 * (grid0.coords t 0).val + k) (3328 + 128 * (grid0.coords t 1).val + d.val) := by
  unfold row
  rw [dif_pos hk]
  blk_simp [iblk, V, idx1 t]
  refine (at2_of (arg m c) _).trans ?_
  congr 1 <;> blk_simp [idx1 t] <;> dsimp only <;> omega

theorem v_at (c : Dev nD) (t : Fin cfg0.N) (k : ℕ) (hk : k < 4224) (d : Fin 128) :
    row (iblk m c 2 t) k d = at2 (arg m c) (4224 * (grid0.coords t 0).val + k) (3584 + 128 * (grid0.coords t 1).val + d.val) := by
  unfold row
  rw [dif_pos hk]
  blk_simp [iblk, V, idx2 t]
  refine (at2_of (arg m c) _).trans ?_
  congr 1 <;> blk_simp [idx2 t] <;> dsimp only <;> omega

/-- A sum over 128 lanes is the sum over the first 64 and that over the last. -/
theorem sum_halves (f : ℕ → EReal) : ∑ x : Fin 128, f x.val = (∑ x : Fin 64, f x.val) + ∑ x : Fin 64, f (64 + x.val) :=
  Fin.sum_univ_add (a := 64) (b := 64) fun x => f x.val

/-- The scores of the pair's first head. -/
theorem sc_first (c : Dev nD) (t : Fin cfg0.N) (r : Fin 384) (k : ℕ) (hk : k < 4224) :
    sc (k0_pay28 (F := Ideal)) (iblk m c 0 t) (iblk m c 1 t) r k
      = SS (arg m c) (grid0.coords t 0).val (2 * (grid0.coords t 1).val) (384 * (grid0.coords t 2).val + r.val) k := by
  unfold sc SS
  simp only [q_at, k_at m c t k hk, p28]
  rw [sum_halves fun x => at2 (arg m c) (4224 * (grid0.coords t 0).val + k) (3328 + 128 * (grid0.coords t 1).val + x) * (if x < 64 then 1 else 0)
    * at2 (arg m c) (4224 * (grid0.coords t 0).val + (384 * (grid0.coords t 2).val + r.val)) (3072 + 128 * (grid0.coords t 1).val + x)]
  have e2 : (∑ x : Fin 64, at2 (arg m c) (4224 * (grid0.coords t 0).val + k) (3328 + 128 * (grid0.coords t 1).val + (64 + x.val)) * (if 64 + x.val < 64 then 1 else 0)
    * at2 (arg m c) (4224 * (grid0.coords t 0).val + (384 * (grid0.coords t 2).val + r.val)) (3072 + 128 * (grid0.coords t 1).val + (64 + x.val))) = 0 :=
    Finset.sum_eq_zero fun x _ => by rw [if_neg (by omega), mul_zero, zero_mul]
  rw [e2, add_zero]
  refine Finset.sum_congr rfl fun x _ => ?_
  have hx := x.isLt
  rw [if_pos hx, mul_one, mul_comm]
  congr 2 <;> ring

/-- The scores of the pair's second head. -/
theorem sc_second (c : Dev nD) (t : Fin cfg0.N) (r : Fin 384) (k : ℕ) (hk : k < 4224) :
    sc (k0_pay29 (F := Ideal)) (iblk m c 0 t) (iblk m c 1 t) r k
      = SS (arg m c) (grid0.coords t 0).val (2 * (grid0.coords t 1).val + 1) (384 * (grid0.coords t 2).val + r.val) k := by
  unfold sc SS
  simp only [q_at, k_at m c t k hk, p29]
  rw [sum_halves fun x => at2 (arg m c) (4224 * (grid0.coords t 0).val + k) (3328 + 128 * (grid0.coords t 1).val + x) * (if x < 64 then 0 else 1)
    * at2 (arg m c) (4224 * (grid0.coords t 0).val + (384 * (grid0.coords t 2).val + r.val)) (3072 + 128 * (grid0.coords t 1).val + x)]
  have e2 : (∑ x : Fin 64, at2 (arg m c) (4224 * (grid0.coords t 0).val + k) (3328 + 128 * (grid0.coords t 1).val + x.val) * (if x.val < 64 then 0 else 1)
    * at2 (arg m c) (4224 * (grid0.coords t 0).val + (384 * (grid0.coords t 2).val + r.val)) (3072 + 128 * (grid0.coords t 1).val + x.val)) = 0 :=
    Finset.sum_eq_zero fun x _ => by rw [if_pos x.isLt, mul_zero, zero_mul]
  rw [e2, zero_add]
  refine Finset.sum_congr rfl fun x _ => ?_
  have hx := x.isLt
  rw [if_neg (by omega), mul_one, mul_comm]
  congr 2 <;> ring

/-- The columns of the queries and the keys hold reals. -/
def Real2 (X : FVec Ideal (⟨2, ![33792, 6656]⟩ : Shape) FTy.bf16) : Prop :=
  ∀ r cl : ℕ, 3072 ≤ cl → cl < 3584 → ∃ a : ℝ, at2 X r cl = (a : EReal)

theorem SS_real {X : FVec Ideal (⟨2, ![33792, 6656]⟩ : Shape) FTy.bf16} (hX : Real2 X) (b h Q k : ℕ) (hh : h < 4) :
    ∃ a : ℝ, SS X b h Q k = (a : EReal) := by
  unfold SS
  have H : ∀ x : Fin 64, ∃ a : ℝ, at2 X (4224 * b + Q) (3072 + 64 * h + x.val) * at2 X (4224 * b + k) (3328 + 64 * h + x.val) = (a : EReal) := by
    intro x
    have hx := x.isLt
    obtain ⟨a, ha⟩ := hX (4224 * b + Q) (3072 + 64 * h + x.val) (by omega) (by omega)
    obtain ⟨a', ha'⟩ := hX (4224 * b + k) (3328 + 64 * h + x.val) (by omega) (by omega)
    exact ⟨a * a', by rw [ha, ha', EReal.coe_mul]⟩
  choose f hf using H
  refine ⟨∑ x, f x, ?_⟩
  rw [Finset.sum_congr rfl fun x _ => hf x]
  exact (map_sum (⟨⟨Real.toEReal, EReal.coe_zero⟩, EReal.coe_add⟩ : ℝ →+ EReal) f Finset.univ).symm

/-- What the precondition says. -/
theorem real_of_pre [Cert.Pre_finite.Facts] (X : FVec Ideal (⟨2, ![33792, 6656]⟩ : Shape) FTy.bf16)
    (h : Cert.Pre_finite.fn (F := Ideal) X = fun _ => 1#1) : Real2 X := by
  intro r cl h1 h2
  unfold at2
  by_cases hr : r < 33792 ∧ cl < 6656
  · rw [dif_pos hr]
    have hp := congrFun h (ix2 ⟨r, hr.1⟩ ⟨cl - 3072, by omega⟩)
    have hi : (extractStridedSlice Cert.Pre_finite.S33792x512 ![0, 3072] X Cert.Pre_finite.Facts.slices_S33792x6656_S33792x512_0_3072
        (ix2 ⟨r, hr.1⟩ ⟨cl - 3072, by omega⟩)) = X (ix2 ⟨r, hr.1⟩ ⟨cl, hr.2⟩) :=
      extractStridedSlice_apply ![0, 3072] X _ _ _ (fun a => by
        match a with
        | ⟨0, _⟩ => show r = 0 + r; omega
        | ⟨1, _⟩ => show cl = 3072 + (cl - 3072); omega)
    have hp' : BitVec.ofBool (decide ((extractStridedSlice Cert.Pre_finite.S33792x512 ![0, 3072] X Cert.Pre_finite.Facts.slices_S33792x6656_S33792x512_0_3072
        (ix2 ⟨r, hr.1⟩ ⟨cl - 3072, by omega⟩) : EReal) - extractStridedSlice Cert.Pre_finite.S33792x512 ![0, 3072] X Cert.Pre_finite.Facts.slices_S33792x6656_S33792x512_0_3072
        (ix2 ⟨r, hr.1⟩ ⟨cl - 3072, by omega⟩) = Ideal.ofBits .f32 0#32)) = 1#1 := hp
    rw [hi, Ideal.ofBits_zero] at hp'
    generalize (X (ix2 ⟨r, hr.1⟩ ⟨cl, hr.2⟩) : EReal) = x at hp' ⊢
    induction x using EReal.rec with
    | bot => simp at hp'
    | top => simp at hp'
    | coe a => exact ⟨a, rfl⟩
  · exact ⟨0, by rw [dif_neg hr]; rfl⟩

/-- THE RESULT ARRAY: under the precondition, what the kernel leaves is the reference's result. -/
theorem final (c : Dev nD) (hX : Real2 (arg m c)) :
    (dats m 0 c).arrAt 3 cfg0.N = Cert.ReferenceIdeal.Read.val_main_v27 (F := Ideal) (arg m c) := by
  refine (dats m 0 c).arrAt_eq_of_covers 3 _ (by decide +kernel) fun t _ y => ?_
  blk_simp
  rw [after0_3]
  unfold outsAt0
  have hb : (grid0.coords t 0).val < 8 := (grid0.coords t 0).isLt
  have hp : (grid0.coords t 1).val < 2 := (grid0.coords t 1).isLt
  have hq : (grid0.coords t 2).val < 11 := (grid0.coords t 2).isLt
  have H0 := fun (r : Fin 384) (k : ℕ) => SS_real hX (grid0.coords t 0).val (2 * (grid0.coords t 1).val) (384 * (grid0.coords t 2).val + r.val) k (by omega)
  have H1 := fun (r : Fin 384) (k : ℕ) => SS_real hX (grid0.coords t 0).val (2 * (grid0.coords t 1).val + 1) (384 * (grid0.coords t 2).val + r.val) k (by omega)
  choose z0 hz0 using H0
  choose z1 hz1 using H1
  obtain ⟨r, d, rfl⟩ : ∃ (r : Fin 384) (d : Fin 128), y = ix2 r d := ⟨y 0, y 1, funext fun a => by match a with | ⟨0, _⟩ => rfl | ⟨1, _⟩ => rfl⟩
  have hd := d.isLt
  have hr := r.isLt
  refine (out_eq (z0 := z0) (z1 := z1) (h0 := fun r k hk => (sc_first m c t r k hk).trans (hz0 r k)) (h1 := fun r k hk => (sc_second m c t r k hk).trans (hz1 r k)) (c := c) (r := r) (d := d) ..).trans ?_
  by_cases hlt : d.val < 64
  · rw [Cert.ReferenceIdeal.Sb.result (arg m c) ⟨(grid0.coords t 0).val, hb⟩ ⟨2 * (grid0.coords t 1).val, by omega⟩ ⟨384 * (grid0.coords t 2).val + r.val, by omega⟩
      ⟨d.val, hlt⟩ (z0 r) (fun k _ => hz0 r k) _ (by blk_simp [idx3 t]; dsimp only; omega) (by blk_simp [idx3 t]; dsimp only; omega)]
    refine Finset.sum_congr rfl fun k hk => ?_
    rw [Finset.mem_Ico] at hk
    rw [v_at m c t k hk.2]
    unfold zs
    simp only [if_pos hlt]
    congr 2
    ring
  · rw [Cert.ReferenceIdeal.Sb.result (arg m c) ⟨(grid0.coords t 0).val, hb⟩ ⟨2 * (grid0.coords t 1).val + 1, by omega⟩ ⟨384 * (grid0.coords t 2).val + r.val, by omega⟩
      ⟨d.val - 64, by omega⟩ (z1 r) (fun k _ => hz1 r k) _ (by blk_simp [idx3 t]; dsimp only; omega) (by blk_simp [idx3 t]; dsimp only; omega)]
    refine Finset.sum_congr rfl fun k hk => ?_
    rw [Finset.mem_Ico] at hk
    rw [v_at m c t k hk.2]
    unfold zs
    simp only [if_neg hlt]
    congr 2
    omega

end Cert.KernelIdeal.Sb

end
-- ==== Proof.Common.lean ====
/- Arrays of any size read by natural numbers, zero outside: the form in which a block's entry and an entry of the
   reference's argument meet. -/
module

public import Idealize.ShloMosaic.Lib.Pipeline.ValueKit

@[expose] public section

noncomputable section

namespace Cert.Common

open Idealize.ShloMosaic Idealize.ShloMosaic.TcCoe

/-- A matrix at row `r` and column `c`, zero outside. -/
def at2 {R C : ℕ} (X : (⟨2, ![R, C]⟩ : Shape).Idx → EReal) (r c : ℕ) : EReal :=
  if h : r < R ∧ c < C then X (ix2 ⟨r, h.1⟩ ⟨c, h.2⟩) else 0

/-- A vector at place `r`, zero outside. -/
def at1 {R : ℕ} (X : (⟨1, ![R]⟩ : Shape).Idx → EReal) (r : ℕ) : EReal :=
  if h : r < R then X (ix1 ⟨r, h⟩) else 0

theorem at2_of {R C : ℕ} (X : (⟨2, ![R, C]⟩ : Shape).Idx → EReal) (i : (⟨2, ![R, C]⟩ : Shape).Idx) :
    X i = at2 X (i 0).val (i 1).val := by
  have h0 : (i 0).val < R := (i 0).isLt
  have h1 : (i 1).val < C := (i 1).isLt
  unfold at2
  rw [dif_pos ⟨h0, h1⟩]
  exact congrArg X (funext fun a => by match a with | ⟨0, _⟩ => rfl | ⟨1, _⟩ => rfl)

theorem at1_of {R : ℕ} (X : (⟨1, ![R]⟩ : Shape).Idx → EReal) (i : (⟨1, ![R]⟩ : Shape).Idx) :
    X i = at1 X (i 0).val := by
  have h0 : (i 0).val < R := (i 0).isLt
  unfold at1
  rw [dif_pos h0]
  exact congrArg X (funext fun a => by match a with | ⟨0, _⟩ => rfl)

theorem at2_ix {R C : ℕ} (X : (⟨2, ![R, C]⟩ : Shape).Idx → EReal) (r : Fin R) (c : Fin C) :
    X (ix2 r c) = at2 X r.val c.val := at2_of X _

/-- An index of a matrix is its row and its column. -/
theorem exists_ix2 {R C : ℕ} (y : (⟨2, ![R, C]⟩ : Shape).Idx) : ∃ (r : Fin R) (c : Fin C), y = ix2 r c :=
  ⟨y 0, y 1, funext fun a => by match a with | ⟨0, _⟩ => rfl | ⟨1, _⟩ => rfl⟩

end Cert.Common

end
-- ==== Proof.Ffn.Payload.lean ====
/- What the feed-forward kernel's printed words hold at an index, over the extended reals: the normalised rows, the
   convolved gate, and one step of the sum over the hidden channels. -/
module

public import proofs.«01_k».proof.Proof.Gen.Kernel2Ideal.Skeleton
public import Idealize.ShloMosaic.Lib.Pipeline.ValueKit
public import Idealize.ShloMosaic.Lib.WordCmp

@[expose] public section

set_option maxRecDepth 16384

noncomputable section

namespace Cert.Kernel2Ideal.Ffn

open Cert.Kernel2Ideal Cert.Kernel2Ideal.Gen Idealize.ShloMosaic.WordCmp Idealize.ShloMosaic Idealize.ShloMosaic.TcCoe Idealize.SL.Sem

/-- The reciprocal root of a row's mean square, the small constant added, of the row's sum of squares `q`. -/
def inv (q : EReal) : EReal := Ideal.rsqrt (Ideal.div q (Ideal.ofBits .f32 0x44800000#32) + Ideal.ofBits .f32 0x358637BD#32)

/-- The gate's product of a scratch row with a column of its weights. -/
def gate (u : FVec Ideal S1424x1024 .bf16) (wg : FVec Ideal S1024x256 .bf16) (r : Fin 1424) (x : Fin 256) : EReal :=
  ∑ k : Fin 1024, u (ix2 r k) * wg (ix2 k x)

/-- The convolution of three gate rows that end at scratch row `r + 16`. -/
def conv (u : FVec Ideal S1424x1024 .bf16) (wg : FVec Ideal S1024x256 .bf16) (cw : FVec Ideal S3x256 .f32)
    (cb : FVec Ideal S1x256 .f32) (r : Fin 1408) (x : Fin 256) : EReal :=
  cb (ix2 0 x) + cw (ix2 0 x) * gate u wg ⟨r.val + 14, by omega⟩ x + cw (ix2 1 x) * gate u wg ⟨r.val + 15, by omega⟩ x
    + cw (ix2 2 x) * gate u wg ⟨r.val + 16, by omega⟩ x

/-- The gated unit as the kernel writes it. -/
def unit (v z : EReal) : EReal :=
  v * Ideal.div 1 (1 + Ideal.exp (0 - v)) * z

/-- One row and hidden channel of the block: the gated unit of the convolution and the value product. -/
def act (u : FVec Ideal S1424x1024 .bf16) (wg wv : FVec Ideal S1024x256 .bf16) (cw : FVec Ideal S3x256 .f32)
    (cb : FVec Ideal S1x256 .f32) (r : Fin 1408) (x : Fin 256) : EReal :=
  unit (conv u wg cw cb r x) (gate u wv ⟨r.val + 16, by omega⟩ x)

theorem p7 (u : FVec Ideal S1424x1024 .bf16) (wv : FVec Ideal S1024x256 .bf16) (r : Fin 1408) (x : Fin 256) :
    k0_pay7 (F := Ideal) u wv (ix2 r x) = gate u wv ⟨r.val + 16, by omega⟩ x := by
  pointwise [k0_pay7]
  simp only [gate, add_comm]

theorem p8 (u : FVec Ideal S1424x1024 .bf16) (wg : FVec Ideal S1024x256 .bf16) (cw : FVec Ideal S3x256 .f32)
    (cb : FVec Ideal S1x256 .f32) (r : Fin 1408) (x : Fin 256) :
    k0_pay8 (F := Ideal) u wg cw cb (ix2 r x) = conv u wg cw cb r x := by
  pointwise [k0_pay8]
  have e0 : (⟨(16 + r.val + 1424 - 2) % 1424, Nat.mod_lt _ (by decide)⟩ : Fin 1424) = ⟨r.val + 14, by omega⟩ := Fin.ext (by show (16 + r.val + 1424 - 2) % 1424 = r.val + 14; omega)
  have e1 : (⟨(16 + r.val + 1424 - 1) % 1424, Nat.mod_lt _ (by decide)⟩ : Fin 1424) = ⟨r.val + 15, by omega⟩ := Fin.ext (by show (16 + r.val + 1424 - 1) % 1424 = r.val + 15; omega)
  rw [e0, e1]
  simp only [conv, gate, add_comm 16 r.val]

theorem p5 (h : FVec Ideal S1408x1024 .f32) (g : FVec Ideal S1x1024 .f32) (r : Fin 1408) (k : Fin 1024) :
    k0_pay5 (F := Ideal) h (k0_pay4 h) (Scalar.ofBits .f32 0x44800000#32) g (ix2 r k)
      = h (ix2 r k) * inv (∑ x : Fin 1024, h (ix2 r x) * h (ix2 r x)) * g (ix2 0 k) := by
  pointwise [k0_pay5, k0_pay4]
  rfl

/-- The choice the kernel makes between the zero halo and the rows before it: zero at every third row block. -/
theorem keep (n : Fin 24) :
    Scalar.cmpi .eq (Scalar.select (Scalar.andi (Scalar.xori
        (Scalar.cmpi .slt (Scalar.remsi (BitVec.ofNat 32 n.val) (Scalar.select (Scalar.cmpi .eq 3#32 0#32) 1#32 3#32)) 0#32)
        (Scalar.cmpi .slt (Scalar.select (Scalar.cmpi .eq 3#32 0#32) 1#32 3#32) 0#32))
        (Scalar.cmpi .ne (Scalar.remsi (BitVec.ofNat 32 n.val) (Scalar.select (Scalar.cmpi .eq 3#32 0#32) 1#32 3#32)) 0#32))
        (Scalar.addi (Scalar.remsi (BitVec.ofNat 32 n.val) (Scalar.select (Scalar.cmpi .eq 3#32 0#32) 1#32 3#32))
          (Scalar.select (Scalar.cmpi .eq 3#32 0#32) 1#32 3#32))
        (Scalar.remsi (BitVec.ofNat 32 n.val) (Scalar.select (Scalar.cmpi .eq 3#32 0#32) 1#32 3#32))) 0#32
      = if n.val % 3 = 0 then 1#1 else 0#1 := by
  revert n; decide +kernel

theorem p3 (n : Fin 24) (h : FVec Ideal S16x1024 .f32) (g : FVec Ideal S1x1024 .f32) (r : Fin 16) (k : Fin 1024) :
    k0_pay3 (F := Ideal) (BitVec.ofNat 32 n.val) h g (ix2 r k)
      = if n.val % 3 = 0 then 0 else h (ix2 r k) * inv (∑ x : Fin 1024, h (ix2 r x) * h (ix2 r x)) * g (ix2 0 k) := by
  pointwise [k0_pay3]
  rw [keep]
  by_cases h : n.val % 3 = 0
  · rw [if_pos h, if_pos h]; rfl
  · rw [if_neg h, if_neg h]; rfl

theorem p6 (r : Fin 1408) (d : Fin 1024) : k0_pay6 (F := Ideal) (ix2 r d) = 0 := by
  pointwise [k0_pay6]

theorem p1 (u : FVec Ideal S1424x1024 .bf16) (wg wv : FVec Ideal S1024x256 .bf16) (cw : FVec Ideal S3x256 .f32)
    (cb : FVec Ideal S1x256 .f32) (acc : FVec Ideal S1408x1024 .f32) (wd : FVec Ideal S256x1024 .bf16) (r : Fin 1408) (d : Fin 1024) :
    k0_pay1 (F := Ideal) (k0_pay7 u wv) (k0_pay8 u wg cw cb) (k0_pay9 u wg cw cb) (k0_pay10 (F := Ideal)) acc wd (ix2 r d)
      = acc (ix2 r d) + ∑ x : Fin 256, act u wg wv cw cb r x * wd (ix2 x d) := by
  pointwise [k0_pay1, k0_pay9, k0_pay10]
  simp only [p7, p8]
  rfl

end Cert.Kernel2Ideal.Ffn

end
-- ==== Proof.Ffn.Block.lean ====
/- What one point of the feed-forward kernel's grid leaves in its scratches and its output block. -/
module

public import proofs.«01_k».proof.Proof.Gen.Kernel2Ideal.Value
public import proofs.«01_k».proof.Proof.Common
public import Idealize.ShloMosaic.Lib.VecWindow
public import proofs.«01_k».proof.Proof.Ffn.Payload

@[expose] public section

set_option maxRecDepth 16384

noncomputable section

namespace Cert.Kernel2Ideal.Ffn

open Cert.Kernel2Ideal Cert.Kernel2Ideal.Gen Idealize.ShloMosaic Idealize.ShloMosaic.TcCoe Idealize.SL.Sem
open Cert.Common

variable (c : Dev nD) (i : grid0.Coords)
  (arg2 : Memref sig .tc .vmem S1408x1024 .f32) (harg2 : arg2.IsWhole) (arg3 : Memref sig .tc .vmem S16x1024 .f32) (harg3 : arg3.IsWhole)
  (arg4 : Memref sig .tc .vmem S1x1024 .f32) (harg4 : arg4.IsWhole) (arg5 : Memref sig .tc .vmem S1024x256 .bf16) (harg5 : arg5.IsWhole)
  (arg6 : Memref sig .tc .vmem S1024x256 .bf16) (harg6 : arg6.IsWhole) (arg7 : Memref sig .tc .vmem S3x256 .f32) (harg7 : arg7.IsWhole)
  (arg8 : Memref sig .tc .vmem S1x256 .f32) (harg8 : arg8.IsWhole) (arg9 : Memref sig .tc .vmem S256x1024 .bf16) (harg9 : arg9.IsWhole)
  (arg10 : Memref sig .tc .vmem S1408x1024 .f32) (harg10 : arg10.IsWhole) (arg11 : Memref sig .tc .vmem S1424x1024 .bf16) (harg11 : arg11.IsWhole)
  (arg12 : Memref sig .tc .vmem S1408x1024 .f32) (harg12 : arg12.IsWhole)
  (x0 : FVec Ideal S1408x1024 .f32) (x1 : FVec Ideal S16x1024 .f32) (x2 : FVec Ideal S1x1024 .f32) (x3 x4 : FVec Ideal S1024x256 .bf16)
  (x5 : FVec Ideal S3x256 .f32) (x6 : FVec Ideal S1x256 .f32) (x7 : FVec Ideal S256x1024 .bf16)
  (xs0 : FVec Ideal S1424x1024 .bf16) (xs1 : FVec Ideal S1408x1024 .f32)

theorem accB (hc0 : ¬cond0_0 i) (hc1 : ¬cond0_1 i) (r : Fin 1408) (d : Fin 1024) :
    sout0_B_1 (F := Ideal) c i arg2 harg2 arg3 harg3 arg4 harg4 arg5 harg5 arg6 harg6 arg7 harg7 arg8 harg8 arg9 harg9 arg10 harg10
        arg11 harg11 arg12 harg12 hc0 hc1 x0 x1 x2 x3 x4 x5 x6 x7 xs0 xs1 (ix2 r d)
      = xs1 (ix2 r d) + ∑ x : Fin 256, act xs0 x3 x4 x5 x6 r x * x7 (ix2 x d) := by
  frame_out
  exact p1 _ _ _ _ _ _ _ r d

theorem outC (hc0 : ¬cond0_0 i) (hc1 : cond0_1 i) (r : Fin 1408) (d : Fin 1024) :
    out0_C_8 (F := Ideal) c i arg2 harg2 arg3 harg3 arg4 harg4 arg5 harg5 arg6 harg6 arg7 harg7 arg8 harg8 arg9 harg9 arg10 harg10
        arg11 harg11 arg12 harg12 hc0 hc1 x0 x1 x2 x3 x4 x5 x6 x7 xs0 xs1 (ix2 r d)
      = x0 (ix2 r d) + (xs1 (ix2 r d) + ∑ x : Fin 256, act xs0 x3 x4 x5 x6 r x * x7 (ix2 x d)) := by
  frame_out
  refine congrArg (x0 (ix2 r d) + ·) ?_
  exact p1 _ _ _ _ _ _ _ r d

/-- The scratch of normalised rows that the first point of a run stores: the halo's rows, then the block's. -/
def scr : FVec Ideal S1424x1024 .bf16 :=
  View.canon (Val := Elt Ideal) (e := .bf16)
    [⟨Rect.unit ![16, 0] ![1408, 1024] inb_S1424x1024_S1408x1024_16_0, k0_pay5 (F := Ideal) x0 (k0_pay4 x0) (Scalar.ofBits .f32 0x44800000#32) x2⟩,
      ⟨Rect.unit ![0, 0] ![16, 1024] inb_S1424x1024_S16x1024_0_0, k0_pay3 (F := Ideal) (BitVec.ofNat 32 (i 0).val) x1 x2⟩]

theorem scrA (hc0 : cond0_0 i) (hc1 : ¬cond0_1 i) :
    sout0_A_0 (F := Ideal) c i arg2 harg2 arg3 harg3 arg4 harg4 arg5 harg5 arg6 harg6 arg7 harg7 arg8 harg8 arg9 harg9 arg10 harg10
        arg11 harg11 arg12 harg12 hc0 hc1 x0 x1 x2 x3 x4 x5 x6 x7 = scr i x0 x1 x2 := by
  funext y
  obtain ⟨r, d, rfl⟩ := exists_ix2 (R := 1424) (C := 1024) y
  frame_out

theorem accA (hc0 : cond0_0 i) (hc1 : ¬cond0_1 i) (r : Fin 1408) (d : Fin 1024) :
    sout0_A_1 (F := Ideal) c i arg2 harg2 arg3 harg3 arg4 harg4 arg5 harg5 arg6 harg6 arg7 harg7 arg8 harg8 arg9 harg9 arg10 harg10
        arg11 harg11 arg12 harg12 hc0 hc1 x0 x1 x2 x3 x4 x5 x6 x7 (ix2 r d)
      = ∑ x : Fin 256, act (scr i x0 x1 x2) x3 x4 x5 x6 r x * x7 (ix2 x d) := by
  frame_out
  have e : ∀ y, (Rect.unit (s := S1424x1024) ![0, 0] ![1424, 1024] inb_S1424x1024_S1424x1024_0_0).toLoadRect.idx y = y :=
    fun y => Rect.emb_unit_full (s := S1424x1024) inb_S1424x1024_S1424x1024_0_0 y
  simp only [View.readCov_eq_canon', e]
  refine (p1 _ _ _ _ _ _ _ r d).trans ?_
  rw [p6, zero_add]
  rfl

theorem scr_halo (n : Fin 24) (hi : (i 0).val = n.val) (r : Fin 16) (k : Fin 1024) :
    scr i x0 x1 x2 (ix2 ⟨r.val, by omega⟩ k)
      = if n.val % 3 = 0 then 0 else x1 (ix2 r k) * inv (∑ x : Fin 1024, x1 (ix2 r x) * x1 (ix2 r x)) * x2 (ix2 0 k) := by
  unfold scr
  rw [View.canon_cons_of_not_mem, hi]
  · have e : (ix2 ⟨r.val, by omega⟩ k : S1424x1024.Idx)
        = (Rect.unit (s := S1424x1024) ![0, 0] ![16, 1024] inb_S1424x1024_S16x1024_0_0).emb (ix2 r k) :=
      funext fun a => Fin.ext (by
        rw [ValueKit.rect_emb_unit_val]
        match a with
        | ⟨0, _⟩ => show r.val = 0 + r.val; omega
        | ⟨1, _⟩ => show k.val = 0 + k.val; omega)
    rw [e]
    exact (View.canon_cons_emb _ _ _ _).trans (p3 n x1 x2 r k)
  · intro hm
    obtain ⟨x, hx⟩ := (Rect.unit (s := S1424x1024) ![16, 0] ![1408, 1024] inb_S1424x1024_S1408x1024_16_0).exists_idx_of_mem hm
    have h2 : 16 + (x 0).val = r.val := (ValueKit.rect_emb_unit_val _ _ _ x 0).symm.trans (congrArg (fun y => (y 0).val) hx)
    omega

theorem scr_rows (r : Fin 1408) (k : Fin 1024) :
    scr i x0 x1 x2 (ix2 ⟨r.val + 16, by omega⟩ k)
      = x0 (ix2 r k) * inv (∑ x : Fin 1024, x0 (ix2 r x) * x0 (ix2 r x)) * x2 (ix2 0 k) := by
  unfold scr
  have e : (ix2 ⟨r.val + 16, by omega⟩ k : S1424x1024.Idx)
      = (Rect.unit (s := S1424x1024) ![16, 0] ![1408, 1024] inb_S1424x1024_S1408x1024_16_0).emb (ix2 r k) :=
    funext fun a => Fin.ext (by
      rw [ValueKit.rect_emb_unit_val]
      match a with
      | ⟨0, _⟩ => show r.val + 16 = 16 + r.val; omega
      | ⟨1, _⟩ => show k.val = 0 + k.val; omega)
  rw [e]
  exact (View.canon_cons_emb _ _ _ _).trans (p5 x0 x2 r k)

end Cert.Kernel2Ideal.Ffn

end
-- ==== Proof.Ffn.Reference.lean ====
/- What the reference's feed-forward holds at an index: the normalised rows, the gate two rows, one row and no row
   before within its sequence, and the sum over the hidden channels. -/
module

public import proofs.«01_k».proof.Proof.Common
public import proofs.«01_k».proof.Proof.Ffn.Payload
public import proofs.«01_k».proof.Proof.Gen.Reference2Ideal.Read
public import Idealize.ShloMosaic.Lib.KernelVsHost
public import Idealize.ShloMosaic.Lib.IdealHost

@[expose] public section

set_option maxRecDepth 16384

noncomputable section

namespace Cert.Kernel2Ideal.Ffn

open Cert.Reference2Ideal Cert.Reference2Ideal.Read Idealize.ShloMosaic Idealize.ShloMosaic.TcCoe Idealize.SL.Sem
open Cert.Common

variable (H : FVec Ideal (⟨2, ![33792, 1024]⟩ : Shape) .f32) (g : FVec Ideal (⟨1, ![1024]⟩ : Shape) .f32)
  (wu : FVec Ideal (⟨2, ![1024, 5632]⟩ : Shape) .f32) (cw : FVec Ideal (⟨2, ![3, 2816]⟩ : Shape) .f32)
  (cb : FVec Ideal (⟨1, ![2816]⟩ : Shape) .f32) (wd : FVec Ideal (⟨2, ![2816, 1024]⟩ : Shape) .f32)

/-- Row `R` of the residual stream, normalised. -/
def nrm (R k : ℕ) : EReal := at2 H R k * inv (∑ x : Fin 1024, at2 H R x.val * at2 H R x.val) * at1 g k

/-- The up projection's channel `f` of row `R`. -/
def up (R f : ℕ) : EReal := ∑ k : Fin 1024, nrm H g R k.val * at2 wu k.val f

/-- The gate `s` rows before row `R`, zero where that lies before the sequence. -/
def back (R s f : ℕ) : EReal := if R % 4224 < s then 0 else up H g wu (R - s) f

/-- The causal convolution of the gate. -/
def cv (R f : ℕ) : EReal :=
  at1 cb f + at2 cw 0 f * back H g wu R 2 f + at2 cw 1 f * back H g wu R 1 f + at2 cw 2 f * back H g wu R 0 f

/-- The hidden channel `f` of row `R`. -/
def hid (R f : ℕ) : EReal := unit (cv H g wu cw cb R f) (up H g wu R (2816 + f))

theorem ref_nrm (i : S8x4224x1024.Idx) :
    val_main_v13 (F := Ideal) H g i = nrm H g (4224 * (i 0).val + (i 1).val) (i 2).val := by
  have e : ∀ i : S8x4224x1024.Idx, val_main_v0 (F := Ideal) H i = at2 H (4224 * (i 0).val + (i 1).val) (i 2).val := fun i => by
    rw [val_main_v0_apply]
    refine (at2_of H _).trans ?_
    have h2 : (i 2).val < 1024 := (i 2).isLt
    congr 1
    · show (((i 0).val * 4224 + (i 1).val) * 1024 + (i 2).val) / 1024 = _
      omega
    · show (((i 0).val * 4224 + (i 1).val) * 1024 + (i 2).val) % 1024 = _
      omega
  simp only [val_main_v13_apply, val_main_v12_apply, val_main_v11_apply, val_main_v10_apply, val_main_v9_apply, val_main_v8_apply,
    val_main_v7_apply, val_main_v6_apply, val_main_v5_apply, val_main_v4_apply, val_main_v3_apply, val_main_v2_apply, val_main_v1_apply, e, at1_of g]
  show at2 H _ _ * Ideal.rsqrt (Ideal.div (Ideal.ofBits .f32 0x00000000#32 + _) _ + _) * _ = _
  rw [Ideal.ofBits_zero, zero_add]
  rfl

theorem ref_up (i : S8x4224x5632.Idx) :
    val_main_v14 (F := Ideal) H g wu i = up H g wu (4224 * (i 0).val + (i 1).val) (i 2).val := by
  rw [val_main_v14_apply]
  simp only [ref_nrm, at2_of wu]
  rfl

theorem ref_pad (b : Fin 8) (p : Fin 4224) (f : Fin 2816) (j : S8x4226x2816.Idx) (s : ℕ) (hs : s ≤ 2) (h0 : (j 0).val = b.val)
    (h1 : (j 1).val = p.val + (2 - s)) (h2 : (j 2).val = f.val) :
    val_main_v17 (F := Ideal) H g wu j = back H g wu (4224 * b.val + p.val) s f.val := by
  unfold val_main_v17 back
  by_cases h : p.val < s
  · rw [if_pos (by omega)]
    refine (pad_apply_of_not_inside _ _ _ _ _ _ _ j 1 ?_).trans ?_
    · rintro ⟨hlo, -⟩
      have hlo : 2 ≤ (j 1).val := hlo
      omega
    · show ((((0#32 : BitVec 32).toInt : ℤ) : ℝ) : EReal) = 0
      simp
  · rw [if_neg (by omega)]
    refine (pad_apply_of_inside _ _ _ _ _ _ _ j (fun a => match a with
      | ⟨0, _⟩ => ⟨b.val, b.isLt⟩
      | ⟨1, _⟩ => ⟨p.val - s, by have := p.isLt; show p.val - s < 4224; omega⟩
      | ⟨2, _⟩ => ⟨f.val, f.isLt⟩) ?_).trans ?_
    · intro a
      match a with
      | ⟨0, _⟩ => show (j 0).val = 0 + b.val * 1; omega
      | ⟨1, _⟩ => show (j 1).val = 2 + (p.val - s) * 1; omega
      | ⟨2, _⟩ => show (j 2).val = 0 + f.val * 1; omega
    · rw [val_main_v15_apply, ref_up]
      show up H g wu (4224 * b.val + (p.val - s)) f.val = _
      congr 1
      omega

theorem ref_cv (i : S8x4224x2816.Idx) :
    val_main_v42 (F := Ideal) H g wu cw cb i = cv H g wu cw cb (4224 * (i 0).val + (i 1).val) (i 2).val := by
  simp only [val_main_v42_apply, val_main_v41_apply, val_main_v40_apply, val_main_v39_apply, val_main_v38_apply, val_main_v37_apply,
    val_main_v36_apply, val_main_v35_apply, val_main_v34_apply, val_main_v33_apply, val_main_v32_apply, val_main_v31_apply,
    val_main_v30_apply, val_main_v29_apply, val_main_v28_apply, val_main_v27_apply, val_main_v26_apply, val_main_v25_apply,
    val_main_v24_apply, val_main_v23_apply, val_main_v22_apply, val_main_v21_apply, val_main_v20_apply, val_main_v19_apply,
    val_main_v18_apply, val_main_cst_2_apply, at1_of cb, at2_of cw]
  rw [ref_pad H g wu (i 0) (i 1) (i 2) (idx_main_v18 i) 2 (by omega) rfl rfl rfl,
    ref_pad H g wu (i 0) (i 1) (i 2) (idx_main_v26 i) 1 (by omega) rfl (Nat.add_comm _ _) rfl,
    ref_pad H g wu (i 0) (i 1) (i 2) (idx_main_v33 i) 0 (by omega) rfl (Nat.add_comm _ _) rfl]
  show at1 cb _ + (((Ideal.ofBits .f32 0x00000000#32 + _ * at2 cw _ _) + _ * at2 cw _ _) + _ * at2 cw _ _) = _
  rw [Ideal.ofBits_zero, zero_add, ← add_assoc, ← add_assoc, mul_comm (back _ _ _ _ 2 _), mul_comm (back _ _ _ _ 1 _), mul_comm (back _ _ _ _ 0 _)]
  have h2 : (i 2).val < 2816 := (i 2).isLt
  have e2 : (i 2).val % 2816 = (i 2).val := Nat.mod_eq_of_lt h2
  rw [e2]
  rfl

theorem ref_hid (i : S8x4224x2816.Idx) :
    val_main_v44 (F := Ideal) H g wu cw cb i = hid H g wu cw cb (4224 * (i 0).val + (i 1).val) (i 2).val := by
  simp only [val_main_v44_apply, val_main_v43_apply, val_main_v16_apply, val_main_call1_v5_apply, val_main_call1_v4_apply,
    val_main_call1_v3_apply, val_main_call1_v2_apply, val_main_call1_v1_apply, val_main_call1_v0_apply, val_main_call1_cst_apply,
    val_main_call1_cst_0_apply, ref_cv, ref_up]
  show cv H g wu cw cb _ _ * Ideal.div (Ideal.ofBits .f32 0x3F800000#32) (Ideal.ofBits .f32 0x3F800000#32 + Ideal.exp (- cv H g wu cw cb _ _)) * _ = _
  rw [Ideal.ofBits_one_f32, ← zero_sub]
  rfl

theorem ref_result (i : (⟨2, ![33792, 1024]⟩ : Shape).Idx) (r d : ℕ) (hr : (i 0).val = r) (hd : (i 1).val = d) :
    val_main_v47 (F := Ideal) H g wu cw cb wd i
      = at2 H r d + ∑ f : Fin 2816, hid H g wu cw cb r f.val * at2 wd f.val d := by
  subst hr hd
  have h1 : (i 1).val < 1024 := (i 1).isLt
  rw [val_main_v47_apply, val_main_v46_apply, val_main_v45_apply, val_main_v0_apply]
  simp only [ref_hid, at2_of H, at2_of wd]
  have e1 : ((i 0).val * 1024 + (i 1).val) / 4325376 * 4224 + ((i 0).val * 1024 + (i 1).val) / 1024 % 4224 = (i 0).val := by omega
  have e2 : ((i 0).val * 1024 + (i 1).val) % 1024 = (i 1).val := by omega
  have e3 : (((i 0).val * 1024 + (i 1).val) / 4325376 * 4224 + ((i 0).val * 1024 + (i 1).val) / 1024 % 4224) * 1024 + ((i 0).val * 1024 + (i 1).val) % 1024 = (i 0).val * 1024 + (i 1).val := by omega
  have e4 : ((i 0).val * 1024 + (i 1).val) / 1024 = (i 0).val := by omega
  refine congrArg₂ (fun x y : EReal => x + y) ?_ (Finset.sum_congr rfl fun f _ => congrArg₂ (fun x y : EReal => x * y) ?_ ?_)
  · show at2 H (((((i 0).val * 1024 + (i 1).val) / 4325376 * 4224 + ((i 0).val * 1024 + (i 1).val) / 1024 % 4224) * 1024 + ((i 0).val * 1024 + (i 1).val) % 1024) / 1024)
      (((((i 0).val * 1024 + (i 1).val) / 4325376 * 4224 + ((i 0).val * 1024 + (i 1).val) / 1024 % 4224) * 1024 + ((i 0).val * 1024 + (i 1).val) % 1024) % 1024) = _
    rw [e3, e2, e4]
  · show hid H g wu cw cb (4224 * (((i 0).val * 1024 + (i 1).val) / 4325376) + ((i 0).val * 1024 + (i 1).val) / 1024 % 4224) f.val = _
    rw [Nat.mul_comm, e1]
  · show at2 wd f.val (((i 0).val * 1024 + (i 1).val) % 1024) = _
    rw [e2]

end Cert.Kernel2Ideal.Ffn

end
-- ==== Proof.Ffn.Equation.lean ====
/- The feed-forward: the scratches after every point of the kernel's grid, and the result array against the reference. -/
module

public import proofs.«01_k».proof.Proof.Ffn.Block
public import proofs.«01_k».proof.Proof.Ffn.Reference
public import Idealize.ShloMosaic.Lib.StableHlo.ReadAt

@[expose] public section

set_option maxRecDepth 16384

noncomputable section

namespace Cert.Kernel2Ideal.Ffn

open Cert.Kernel2Ideal Cert.Kernel2Ideal.Gen Idealize.ShloMosaic Idealize.ShloMosaic.TcCoe Idealize.SL.Sem
open Cert.Common

variable (m : (ℓ : Loc nD τ sig) → Buf (Elt Ideal) ℓ)

/-! The host's arrays. -/

theorem V_v0 (c : Dev nD) (i : (⟨2, ![1, 1024]⟩ : Shape).Idx) :
    (V (F := Ideal) m c main_v0 : FVec Ideal (⟨2, ![1, 1024]⟩ : Shape) .f32) i
      = at1 (m ((c : Thread nD τ).loc main_arg1)) (i 1).val := by
  refine Eq.trans ?_ (at1_of _ (ix1 (i 1)))
  unfold V
  after_reads_at

theorem V_v5 (c : Dev nD) (i : (⟨2, ![1, 2816]⟩ : Shape).Idx) :
    (V (F := Ideal) m c main_v5 : FVec Ideal (⟨2, ![1, 2816]⟩ : Shape) .f32) i
      = at1 (m ((c : Thread nD τ).loc main_arg4)) (i 1).val := by
  refine Eq.trans ?_ (at1_of _ (ix1 (i 1)))
  unfold V
  after_reads_at

theorem V_v2 (c : Dev nD) (i : (⟨2, ![1024, 2816]⟩ : Shape).Idx) :
    (V (F := Ideal) m c main_v2 : FVec Ideal (⟨2, ![1024, 2816]⟩ : Shape) .bf16) i
      = at2 (m ((c : Thread nD τ).loc main_arg2)) (i 0).val (i 1).val := by
  have h1 : (i 1).val < 2816 := (i 1).isLt
  refine Eq.trans ?_ (at2_of _ (ix2 (i 0) ⟨(i 1).val, by omega⟩))
  unfold V
  after_reads_at

theorem V_v4 (c : Dev nD) (i : (⟨2, ![1024, 2816]⟩ : Shape).Idx) :
    (V (F := Ideal) m c main_v4 : FVec Ideal (⟨2, ![1024, 2816]⟩ : Shape) .bf16) i
      = at2 (m ((c : Thread nD τ).loc main_arg2)) (i 0).val (2816 + (i 1).val) := by
  have h1 : (i 1).val < 2816 := (i 1).isLt
  refine Eq.trans ?_ (at2_of _ (ix2 (i 0) ⟨2816 + (i 1).val, by omega⟩))
  unfold V
  after_reads_at

theorem V_v6 (c : Dev nD) (i : (⟨2, ![2816, 1024]⟩ : Shape).Idx) :
    (V (F := Ideal) m c main_v6 : FVec Ideal (⟨2, ![2816, 1024]⟩ : Shape) .bf16) i
      = at2 (m ((c : Thread nD τ).loc main_arg5)) (i 0).val (i 1).val := by
  refine Eq.trans ?_ (at2_of _ i)
  unfold V
  after_reads_at

/-! The blocks, at the point `t` of the grid: row block `t / 11`, hidden block `t % 11`. -/

theorem coord : ∀ t : Fin cfg0.N, (grid0.coords t 0).val = t.val / 11 := (by decide +kernel : ∀ t : Fin grid0.N, _)
theorem idx0 : ∀ t : Fin cfg0.N, win0_0.index t = ![t.val / 11, 0] := (by decide +kernel : ∀ t : Fin grid0.N, _)
theorem idx1 : ∀ t : Fin cfg0.N, win0_1.index t = ![88 * (t.val / 11) - 1, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, t.val % 11] := (by decide +kernel : ∀ t : Fin grid0.N, _)
theorem idx4 : ∀ t : Fin cfg0.N, win0_4.index t = ![0, t.val % 11] := (by decide +kernel : ∀ t : Fin grid0.N, _)
theorem idx5 : ∀ t : Fin cfg0.N, win0_5.index t = ![0, t.val % 11] := (by decide +kernel : ∀ t : Fin grid0.N, _)
theorem idx6 : ∀ t : Fin cfg0.N, win0_6.index t = ![0, t.val % 11] := (by decide +kernel : ∀ t : Fin grid0.N, _)
theorem idx7 : ∀ t : Fin cfg0.N, win0_7.index t = ![t.val % 11, 0] := (by decide +kernel : ∀ t : Fin grid0.N, _)
theorem idx8 : ∀ t : Fin cfg0.N, win0_8.index t = ![t.val / 11, 0] := (by decide +kernel : ∀ t : Fin grid0.N, _)
theorem flush8 : ∀ t : Fin cfg0.N, (cfg0.win 8).flush t = true → t.val % 11 = 10 := (by decide +kernel : ∀ t : Fin grid0.N, _)

theorem in0 (c : Dev nD) (t : Fin cfg0.N) (r : Fin 1408) (d : Fin 1024) :
    iblk m c 0 t (ix2 r d) = at2 (m ((c : Thread nD τ).loc main_arg0)) (1408 * (t.val / 11) + r.val) d.val := by
  unfold iblk
  blk_simp [V_main_arg0 m c]
  refine (at2_of _ _).trans ?_
  congr 1 <;> blk_simp [idx0 t] <;> (try dsimp only) <;> omega

theorem in1 (c : Dev nD) (t : Fin cfg0.N) (r : Fin 16) (d : Fin 1024) :
    iblk m c 1 t (ix2 r d) = at2 (m ((c : Thread nD τ).loc main_arg0)) (16 * (88 * (t.val / 11) - 1) + r.val) d.val := by
  unfold iblk
  blk_simp [V_main_arg0 m c]
  refine (at2_of _ _).trans ?_
  congr 1 <;> blk_simp [idx1 t] <;> (try dsimp only) <;> omega

theorem in2 (c : Dev nD) (t : Fin cfg0.N) (d : Fin 1024) :
    iblk m c 2 t (ix2 0 d) = at1 (m ((c : Thread nD τ).loc main_arg1)) d.val := by
  unfold iblk
  blk_simp
  refine (V_v0 m c _).trans ?_
  congr 1 <;> blk_simp [idx2 t] <;> (try dsimp only) <;> omega

theorem in3 (c : Dev nD) (t : Fin cfg0.N) (k : Fin 1024) (x : Fin 256) :
    iblk m c 3 t (ix2 k x) = at2 (m ((c : Thread nD τ).loc main_arg2)) k.val (256 * (t.val % 11) + x.val) := by
  unfold iblk
  blk_simp
  refine (V_v2 m c _).trans ?_
  congr 1 <;> blk_simp [idx3 t] <;> (try dsimp only) <;> omega

theorem in4 (c : Dev nD) (t : Fin cfg0.N) (k : Fin 1024) (x : Fin 256) :
    iblk m c 4 t (ix2 k x) = at2 (m ((c : Thread nD τ).loc main_arg2)) k.val (2816 + (256 * (t.val % 11) + x.val)) := by
  unfold iblk
  blk_simp
  refine (V_v4 m c _).trans ?_
  congr 1 <;> blk_simp [idx4 t] <;> (try dsimp only) <;> omega

theorem in5 (c : Dev nD) (t : Fin cfg0.N) (s : Fin 3) (x : Fin 256) :
    iblk m c 5 t (ix2 s x) = at2 (m ((c : Thread nD τ).loc main_arg3)) s.val (256 * (t.val % 11) + x.val) := by
  unfold iblk
  blk_simp [V_main_arg3 m c]
  refine (at2_of _ _).trans ?_
  congr 1 <;> blk_simp [idx5 t] <;> (try dsimp only) <;> omega

theorem in6 (c : Dev nD) (t : Fin cfg0.N) (x : Fin 256) :
    iblk m c 6 t (ix2 0 x) = at1 (m ((c : Thread nD τ).loc main_arg4)) (256 * (t.val % 11) + x.val) := by
  unfold iblk
  blk_simp
  refine (V_v5 m c _).trans ?_
  congr 1 <;> blk_simp [idx6 t] <;> (try dsimp only) <;> omega

theorem in7 (c : Dev nD) (t : Fin cfg0.N) (x : Fin 256) (d : Fin 1024) :
    iblk m c 7 t (ix2 x d) = at2 (m ((c : Thread nD τ).loc main_arg5)) (256 * (t.val % 11) + x.val) d.val := by
  unfold iblk
  blk_simp
  refine (V_v6 m c _).trans ?_
  congr 1 <;> blk_simp [idx7 t] <;> (try dsimp only) <;> omega

section Scratch
variable (H : FVec Ideal (⟨2, ![33792, 1024]⟩ : Shape) .f32) (g : FVec Ideal (⟨1, ![1024]⟩ : Shape) .f32)
  (wu : FVec Ideal (⟨2, ![1024, 5632]⟩ : Shape) .f32) (cw : FVec Ideal (⟨2, ![3, 2816]⟩ : Shape) .f32)
  (cb : FVec Ideal (⟨1, ![2816]⟩ : Shape) .f32) (wd : FVec Ideal (⟨2, ![2816, 1024]⟩ : Shape) .f32)

/-- The scratch's row `p` in row block `I`: the normalised row sixteen before, zero before a sequence's start. -/
def U (I p k : ℕ) : EReal := if I % 3 = 0 ∧ p < 16 then 0 else nrm H g (1408 * I + p - 16) k

theorem gate_eq (I F : ℕ) (u : FVec Ideal S1424x1024 .bf16) (w : FVec Ideal S1024x256 .bf16)
    (hu : ∀ (p : Fin 1424) (k : Fin 1024), u (ix2 p k) = U H g I p.val k.val)
    (hw : ∀ (k : Fin 1024) (x : Fin 256), w (ix2 k x) = at2 wu k.val (F + x.val)) (p : Fin 1424) (x : Fin 256) :
    gate u w p x = if I % 3 = 0 ∧ p.val < 16 then 0 else up H g wu (1408 * I + p.val - 16) (F + x.val) := by
  unfold gate up
  simp only [hu, hw, U]
  by_cases h : I % 3 = 0 ∧ p.val < 16
  · simp only [if_pos h, zero_mul, Finset.sum_const_zero]
  · simp only [if_neg h]

theorem act_eq (I J : ℕ) (u : FVec Ideal S1424x1024 .bf16) (wg wv : FVec Ideal S1024x256 .bf16) (w : FVec Ideal S3x256 .f32)
    (b : FVec Ideal S1x256 .f32)
    (hu : ∀ (p : Fin 1424) (k : Fin 1024), u (ix2 p k) = U H g I p.val k.val)
    (hg : ∀ (k : Fin 1024) (x : Fin 256), wg (ix2 k x) = at2 wu k.val (256 * J + x.val))
    (hv : ∀ (k : Fin 1024) (x : Fin 256), wv (ix2 k x) = at2 wu k.val (2816 + (256 * J + x.val)))
    (hw : ∀ (s : Fin 3) (x : Fin 256), w (ix2 s x) = at2 cw s.val (256 * J + x.val))
    (hb : ∀ x : Fin 256, b (ix2 0 x) = at1 cb (256 * J + x.val)) (r : Fin 1408) (x : Fin 256) :
    act u wg wv w b r x = hid H g wu cw cb (1408 * I + r.val) (256 * J + x.val) := by
  have e : ∀ (s : ℕ) (hs : s ≤ 2), gate u wg ⟨r.val + (16 - s), by omega⟩ x = back H g wu (1408 * I + r.val) s (256 * J + x.val) := fun s hs => by
    rw [gate_eq H g wu I (256 * J) u wg hu hg]
    unfold back
    have hr := r.isLt
    by_cases h : I % 3 = 0 ∧ r.val + (16 - s) < 16
    · rw [if_pos h, if_pos (by omega)]
    · rw [if_neg h, if_neg (by omega)]
      congr 1
      dsimp only
      omega
  have ev : gate u wv ⟨r.val + 16, by omega⟩ x = up H g wu (1408 * I + r.val) (2816 + (256 * J + x.val)) := by
    rw [gate_eq H g wu I (2816 + 256 * J) u wv hu (fun k x => by rw [hv, Nat.add_assoc]), if_neg (by dsimp only; omega)]
    congr 1 <;> (try dsimp only) <;> omega
  unfold act hid conv cv
  rw [ev, e 2 (by omega), e 1 (by omega), e 0 (by omega), hb, hw, hw, hw]
  rfl

end Scratch

/-- The sum over the first `n` hidden channels of row `R`, at channel `d` of the result. -/
def part (c : Dev nD) (n R d : ℕ) : EReal :=
  ∑ f ∈ Finset.range n, hid (m ((c : Thread nD τ).loc main_arg0)) (m ((c : Thread nD τ).loc main_arg1)) (m ((c : Thread nD τ).loc main_arg2))
    (m ((c : Thread nD τ).loc main_arg3)) (m ((c : Thread nD τ).loc main_arg4)) R f * at2 (m ((c : Thread nD τ).loc main_arg5)) f d

/-- A sum over the first `256 * J` numbers and the next 256. -/
theorem sum_more (f : ℕ → EReal) (g : Fin 256 → EReal) (J : ℕ) (h : ∀ x : Fin 256, g x = f (256 * J + x.val)) :
    ∑ n ∈ Finset.range (256 * J), f n + ∑ x : Fin 256, g x = ∑ n ∈ Finset.range (256 * (J + 1)), f n := by
  rw [Nat.mul_add, Nat.mul_one, Finset.sum_range_add, Finset.sum_range (n := 256)]
  exact congrArg _ (Finset.sum_congr rfl fun x _ => h x)

/-- One point adds its 256 hidden channels. -/
theorem step (c : Dev nD) (t : Fin cfg0.N) (u : FVec Ideal S1424x1024 .bf16)
    (hu : ∀ (p : Fin 1424) (k : Fin 1024), u (ix2 p k)
      = U (m ((c : Thread nD τ).loc main_arg0)) (m ((c : Thread nD τ).loc main_arg1)) (t.val / 11) p.val k.val) (r : Fin 1408) (d : Fin 1024) :
    part m c (256 * (t.val % 11)) (1408 * (t.val / 11) + r.val) d.val
        + ∑ x : Fin 256, act u (iblk m c 3 t) (iblk m c 4 t) (iblk m c 5 t) (iblk m c 6 t) r x * (iblk m c 7 t : FVec Ideal S256x1024 .bf16) (ix2 x d)
      = part m c (256 * (t.val % 11 + 1)) (1408 * (t.val / 11) + r.val) d.val := by
  unfold part
  refine sum_more _ _ (t.val % 11) fun x => congrArg₂ (fun x y : EReal => x * y) ?_ (in7 m c t x d)
  exact act_eq _ _ _ _ _ (t.val / 11) (t.val % 11) u _ _ _ _ hu (in3 m c t) (in4 m c t) (in5 m c t) (in6 m c t) r x

/-- The scratch the first point of a run stores. -/
theorem scr_eq (c : Dev nD) (t : Fin cfg0.N) (p : Fin 1424) (k : Fin 1024) :
    scr (grid0.coords t) (iblk m c 0 t) (iblk m c 1 t) (iblk m c 2 t) (ix2 p k)
      = U (m ((c : Thread nD τ).loc main_arg0)) (m ((c : Thread nD τ).loc main_arg1)) (t.val / 11) p.val k.val := by
  have ht : t.val < 264 := t.isLt
  have hp := p.isLt
  unfold U nrm
  by_cases h : p.val < 16
  · refine (scr_halo (grid0.coords t) _ _ _ ⟨t.val / 11, by omega⟩ (coord t) ⟨p.val, h⟩ k).trans ?_
    by_cases h3 : (t.val / 11) % 3 = 0
    · rw [if_pos h3, if_pos ⟨h3, h⟩]
    · rw [if_neg h3, if_neg (fun hc => h3 hc.1)]
      simp only [in1, in2]
      rw [show 16 * (88 * (t.val / 11) - 1) + p.val = 1408 * (t.val / 11) + p.val - 16 by omega]
  · have e : p = ⟨(⟨p.val - 16, by omega⟩ : Fin 1408).val + 16, by dsimp only; omega⟩ := Fin.ext (by dsimp only; omega)
    rw [if_neg (fun hc => h hc.2)]
    conv_lhs => rw [e]
    refine (scr_rows (grid0.coords t) _ _ _ ⟨p.val - 16, by omega⟩ k).trans ?_
    simp only [in0, in2]
    rw [show 1408 * (t.val / 11) + (p.val - 16) = 1408 * (t.val / 11) + p.val - 16 by omega]

/-- The first point of a run stores the normalised rows and the first part of the sum. -/
theorem first (c : Dev nD) (t : Fin cfg0.N) (h0 : t.val % 11 = 0) :
    (∀ (p : Fin 1424) (k : Fin 1024), (outsAt0 m c t.val t.isLt).2.1 (ix2 p k)
      = U (m ((c : Thread nD τ).loc main_arg0)) (m ((c : Thread nD τ).loc main_arg1)) (t.val / 11) p.val k.val)
    ∧ ∀ (r : Fin 1408) (d : Fin 1024), (outsAt0 m c t.val t.isLt).2.2 (ix2 r d)
      = part m c (256 * (t.val % 11 + 1)) (1408 * (t.val / 11) + r.val) d.val := by
  rw [outsAt0_A m c t h0 (by omega)]
  dsimp only
  refine ⟨fun p k => ?_, fun r d => ?_⟩
  · rw [scrA]
    exact scr_eq m c t p k
  · refine (accA (r := r) (d := d) ..).trans ?_
    refine Eq.trans ?_ (step m c t _ (scr_eq m c t) r d)
    rw [h0]
    unfold part
    rw [Nat.mul_zero, Finset.range_zero, Finset.sum_empty, zero_add]

/-- A later point leaves the normalised rows and adds its part of the sum. -/
theorem next (c : Dev nD) (t : Fin cfg0.N) (h0 : ¬t.val % 11 = 0) (h1 : ¬t.val % 11 = 10)
    (hu : ∀ (p : Fin 1424) (k : Fin 1024), (outsAt0 m c (t.val - 1) (Nat.lt_of_le_of_lt (Nat.sub_le _ _) t.isLt)).2.1 (ix2 p k)
      = U (m ((c : Thread nD τ).loc main_arg0)) (m ((c : Thread nD τ).loc main_arg1)) (t.val / 11) p.val k.val)
    (ha : ∀ (r : Fin 1408) (d : Fin 1024), (outsAt0 m c (t.val - 1) (Nat.lt_of_le_of_lt (Nat.sub_le _ _) t.isLt)).2.2 (ix2 r d)
      = part m c (256 * (t.val % 11)) (1408 * (t.val / 11) + r.val) d.val) :
    (∀ (p : Fin 1424) (k : Fin 1024), (outsAt0 m c t.val t.isLt).2.1 (ix2 p k)
      = U (m ((c : Thread nD τ).loc main_arg0)) (m ((c : Thread nD τ).loc main_arg1)) (t.val / 11) p.val k.val)
    ∧ ∀ (r : Fin 1408) (d : Fin 1024), (outsAt0 m c t.val t.isLt).2.2 (ix2 r d)
      = part m c (256 * (t.val % 11 + 1)) (1408 * (t.val / 11) + r.val) d.val := by
  rw [outsAt0_B m c t h0 h1]
  dsimp only
  refine ⟨fun p k => hu p k, fun r d => ?_⟩
  refine (accB (r := r) (d := d) ..).trans ?_
  refine Eq.trans ?_ (step m c t _ hu r d)
  rw [ha]

/-- THE SCRATCHES after the point `n`, short of the last of its run: the normalised rows, and the sum over the hidden
channels so far. -/
theorem inv_all (c : Dev nD) : ∀ (n : ℕ) (hn : n < cfg0.N), n % 11 < 10 →
    (∀ (p : Fin 1424) (k : Fin 1024), (outsAt0 m c n hn).2.1 (ix2 p k)
      = U (m ((c : Thread nD τ).loc main_arg0)) (m ((c : Thread nD τ).loc main_arg1)) (n / 11) p.val k.val)
    ∧ ∀ (r : Fin 1408) (d : Fin 1024), (outsAt0 m c n hn).2.2 (ix2 r d)
      = part m c (256 * (n % 11 + 1)) (1408 * (n / 11) + r.val) d.val := by
  intro n
  induction n with
  | zero => exact fun hn _ => first m c ⟨0, hn⟩ rfl
  | succ n ih =>
    intro hn h
    by_cases h0 : (n + 1) % 11 = 0
    · exact first m c ⟨n + 1, hn⟩ h0
    · obtain ⟨hu, ha⟩ := ih (Nat.lt_of_succ_lt hn) (by omega)
      refine next m c ⟨n + 1, hn⟩ h0 (by dsimp only; omega) (fun p k => ?_) (fun r d => ?_)
      · refine (hu p k).trans ?_
        dsimp only
        rw [show (n + 1) / 11 = n / 11 by omega]
      · refine (ha r d).trans ?_
        dsimp only
        rw [show (n + 1) / 11 = n / 11 by omega, show (n + 1) % 11 = n % 11 + 1 by omega]

/-- THE RESULT ARRAY: what the kernel leaves is the reference's result. -/
theorem final (c : Dev nD) :
    (dats m 0 c).arrAt 8 cfg0.N = Cert.Reference2Ideal.Read.val_main_v47 (F := Ideal) (m ((c : Thread nD τ).loc main_arg0))
      (m ((c : Thread nD τ).loc main_arg1)) (m ((c : Thread nD τ).loc main_arg2)) (m ((c : Thread nD τ).loc main_arg3))
      (m ((c : Thread nD τ).loc main_arg4)) (m ((c : Thread nD τ).loc main_arg5)) := by
  refine (dats m 0 c).arrAt_eq_of_covers 8 _ (by decide +kernel) fun t hf y => ?_
  have h1 : t.val % 11 = 10 := flush8 t hf
  have h0 : ¬t.val % 11 = 0 := by omega
  blk_simp
  rw [after0_8, outsAt0_C m c t h0 h1]
  dsimp only
  obtain ⟨hu, ha⟩ := inv_all m c (t.val - 1) (Nat.lt_of_le_of_lt (Nat.sub_le _ _) t.isLt) (by omega)
  rw [show (t.val - 1) / 11 = t.val / 11 by omega] at hu ha
  rw [show (t.val - 1) % 11 + 1 = t.val % 11 by omega] at ha
  obtain ⟨r, d, rfl⟩ := exists_ix2 (R := 1408) (C := 1024) y
  refine (outC (r := r) (d := d) ..).trans ?_
  refine Eq.trans ?_ (ref_result (r := 1408 * (t.val / 11) + r.val) (d := d.val) (hr := ?_) (hd := ?_) ..).symm
  · refine congrArg₂ (fun x y : EReal => x + y) (in0 m c t r d) ?_
    rw [ha r d, step m c t _ hu r d, h1]
    exact Finset.sum_range _
  · blk_simp [idx8 t]
    omega
  · blk_simp [idx8 t]

end Cert.Kernel2Ideal.Ffn

end
-- ==== Proof.Merge.Equation.lean ====
/- The merge of the three mixers: what the reference's host operations hold at an index, what one grid point of the
   kernel stores, and that the two are one number at every place of the result. -/
module

public import proofs.«01_k».proof.Proof.Common
public import proofs.«01_k».proof.Proof.Gen.Kernel3Ideal.Value
public import proofs.«01_k».proof.Proof.Gen.Reference3Ideal.Read
public import Idealize.ShloMosaic.Lib.StableHlo.ReadAt

@[expose] public section

set_option maxRecDepth 16384

noncomputable section

namespace Cert.Kernel3Ideal.Merge

open Cert.Kernel3Ideal Cert.Kernel3Ideal.Gen Idealize.ShloMosaic Idealize.ShloMosaic.TcCoe Idealize.SL.Sem
open Cert.Common

/-- The merged gates and branches at row `r` and channel `k`. -/
def mid (Z : FVec Ideal (⟨2, ![33792, 6656]⟩ : Shape) .bf16) (A B : FVec Ideal (⟨2, ![33792, 256]⟩ : Shape) .bf16)
    (D : FVec Ideal (⟨2, ![33792, 512]⟩ : Shape) .bf16) (wa wb : FVec Ideal (⟨2, ![256, 1024]⟩ : Shape) .f32)
    (wd : FVec Ideal (⟨2, ![512, 1024]⟩ : Shape) .f32) (r k : ℕ) : EReal :=
  at2 Z r k * (∑ x : Fin 256, at2 A r x.val * at2 wa x.val k)
    + at2 Z r (1024 + k) * (∑ x : Fin 256, at2 B r x.val * at2 wb x.val k)
    + at2 Z r (2048 + k) * (∑ x : Fin 512, at2 D r x.val * at2 wd x.val k)

section Ref
open Cert.Reference3Ideal Cert.Reference3Ideal.Read

variable (H : FVec Ideal (⟨2, ![33792, 1024]⟩ : Shape) .f32)
  (Z : FVec Ideal (⟨2, ![33792, 6656]⟩ : Shape) .bf16) (A B : FVec Ideal (⟨2, ![33792, 256]⟩ : Shape) .bf16)
  (D : FVec Ideal (⟨2, ![33792, 512]⟩ : Shape) .bf16) (wa wb : FVec Ideal (⟨2, ![256, 1024]⟩ : Shape) .f32)
  (wd : FVec Ideal (⟨2, ![512, 1024]⟩ : Shape) .f32) (wo : FVec Ideal (⟨2, ![1024, 1024]⟩ : Shape) .f32)

theorem ref_mid (i : (⟨2, ![33792, 1024]⟩ : Shape).Idx) :
    val_main_v16 (F := Ideal) Z A B D wa wb wd i = mid Z A B D wa wb wd (i 0).val (i 1).val := by
  simp only [val_main_v16_apply, val_main_v15_apply, val_main_v14_apply, val_main_v13_apply, val_main_v12_apply,
    val_main_v11_apply, val_main_v10_apply, val_main_v9_apply, val_main_v8_apply, val_main_v7_apply, val_main_v6_apply,
    val_main_v5_apply, val_main_v4_apply, val_main_v3_apply, val_main_v2_apply, val_main_v1_apply, val_main_v0_apply,
    at2_of Z, at2_of A, at2_of B, at2_of D, at2_of wa, at2_of wb, at2_of wd]
  show _ + _ + _ = _
  unfold mid
  congr 2

theorem ref_result (i : (⟨2, ![33792, 1024]⟩ : Shape).Idx) (r d : ℕ) (hr : (i 0).val = r) (hd : (i 1).val = d) :
    val_main_v18 (F := Ideal) H Z A B D wa wb wd wo i
      = at2 H r d + ∑ k : Fin 1024, mid Z A B D wa wb wd r k.val * at2 wo k.val d := by
  subst hr hd
  rw [val_main_v18_apply, val_main_v17_apply]
  simp only [ref_mid, at2_of H, at2_of wo]
  rfl

end Ref

variable (m : (ℓ : Loc nD τ sig) → Buf (Elt Ideal) ℓ)

theorem V_v0 (c : Dev nD) (i : (⟨2, ![256, 1024]⟩ : Shape).Idx) :
    (V (F := Ideal) m c main_v0 : FVec Ideal (⟨2, ![256, 1024]⟩ : Shape) .bf16) i
      = (m ((c : Thread nD τ).loc main_arg5) : FVec Ideal (⟨2, ![256, 1024]⟩ : Shape) .f32) i := by
  unfold V
  after_reads_at

theorem V_v1 (c : Dev nD) (i : (⟨2, ![256, 1024]⟩ : Shape).Idx) :
    (V (F := Ideal) m c main_v1 : FVec Ideal (⟨2, ![256, 1024]⟩ : Shape) .bf16) i
      = (m ((c : Thread nD τ).loc main_arg6) : FVec Ideal (⟨2, ![256, 1024]⟩ : Shape) .f32) i := by
  unfold V
  after_reads_at

theorem V_v2 (c : Dev nD) (i : (⟨2, ![512, 1024]⟩ : Shape).Idx) :
    (V (F := Ideal) m c main_v2 : FVec Ideal (⟨2, ![512, 1024]⟩ : Shape) .bf16) i
      = (m ((c : Thread nD τ).loc main_arg7) : FVec Ideal (⟨2, ![512, 1024]⟩ : Shape) .f32) i := by
  unfold V
  after_reads_at

theorem V_v3 (c : Dev nD) (i : (⟨2, ![1024, 1024]⟩ : Shape).Idx) :
    (V (F := Ideal) m c main_v3 : FVec Ideal (⟨2, ![1024, 1024]⟩ : Shape) .bf16) i
      = (m ((c : Thread nD τ).loc main_arg8) : FVec Ideal (⟨2, ![1024, 1024]⟩ : Shape) .f32) i := by
  unfold V
  after_reads_at

/-- What a grid point stores. -/
theorem out_eq (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x256 .bf16) (harg5 : arg5.IsWhole) (arg6 : Memref sig .tc .vmem S512x256 .bf16) (harg6 : arg6.IsWhole) (arg7 : Memref sig .tc .vmem S512x512 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S512x1024 .bf16) (harg10 : arg10.IsWhole) (arg11 : Memref sig .tc .vmem S1024x1024 .bf16) (harg11 : arg11.IsWhole) (arg12 : Memref sig .tc .vmem S512x1024 .f32) (harg12 : arg12.IsWhole)
    (x0 : FVec Ideal S512x1024 .f32) (x1 x2 x3 : FVec Ideal S512x1024 .bf16) (x4 x5 : FVec Ideal S512x256 .bf16) (x6 : FVec Ideal S512x512 .bf16) (x7 x8 : FVec Ideal S256x1024 .bf16) (x9 : FVec Ideal S512x1024 .bf16) (x10 : FVec Ideal S1024x1024 .bf16)
    (r : Fin 512) (d : Fin 1024) :
    out0_A_11 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 (ix2 r d)
      = x0 (ix2 r d) + ∑ k : Fin 1024, (x1 (ix2 r k) * (∑ x : Fin 256, x4 (ix2 r x) * x7 (ix2 x k))
          + x2 (ix2 r k) * (∑ x : Fin 256, x5 (ix2 r x) * x8 (ix2 x k))
          + x3 (ix2 r k) * (∑ x : Fin 512, x6 (ix2 r x) * x9 (ix2 x k))) * x10 (ix2 k d) := by
  frame_out
  pointwise [k0_pay1]

theorem idx0 : ∀ t : Fin cfg0.N, win0_0.index t = ![(grid0.coords t 0).val, 0] := (by decide +kernel : ∀ t : Fin grid0.N, _)
theorem idx1 : ∀ t : Fin cfg0.N, win0_1.index t = ![(grid0.coords t 0).val, 0] := (by decide +kernel : ∀ t : Fin grid0.N, _)
theorem idx2 : ∀ t : Fin cfg0.N, win0_2.index t = ![(grid0.coords t 0).val, 1] := (by decide +kernel : ∀ t : Fin grid0.N, _)
theorem idx3 : ∀ t : Fin cfg0.N, win0_3.index t = ![(grid0.coords t 0).val, 2] := (by decide +kernel : ∀ t : Fin grid0.N, _)
theorem idx4 : ∀ t : Fin cfg0.N, win0_4.index t = ![(grid0.coords t 0).val, 0] := (by decide +kernel : ∀ t : Fin grid0.N, _)
theorem idx5 : ∀ t : Fin cfg0.N, win0_5.index t = ![(grid0.coords t 0).val, 0] := (by decide +kernel : ∀ t : Fin grid0.N, _)
theorem idx6 : ∀ t : Fin cfg0.N, win0_6.index t = ![(grid0.coords t 0).val, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![(grid0.coords t 0).val, 0] := (by decide +kernel : ∀ t : Fin grid0.N, _)

theorem in0 (c : Dev nD) (t : Fin cfg0.N) (r : Fin 512) (d : Fin 1024) :
    iblk m c 0 t (ix2 r d) = at2 (m ((c : Thread nD τ).loc main_arg0)) (512 * (grid0.coords t 0).val + r.val) d.val := by
  unfold iblk
  blk_simp [V_main_arg0 m c]
  refine (at2_of _ _).trans ?_
  congr 1 <;> blk_simp [idx0 t] <;> (try dsimp only) <;> omega

theorem in4 (c : Dev nD) (t : Fin cfg0.N) (r : Fin 512) (d : Fin 256) :
    iblk m c 4 t (ix2 r d) = at2 (m ((c : Thread nD τ).loc main_arg2)) (512 * (grid0.coords t 0).val + r.val) d.val := by
  unfold iblk
  blk_simp [V_main_arg2 m c]
  refine (at2_of _ _).trans ?_
  congr 1 <;> blk_simp [idx4 t] <;> (try dsimp only) <;> omega

theorem in5 (c : Dev nD) (t : Fin cfg0.N) (r : Fin 512) (d : Fin 256) :
    iblk m c 5 t (ix2 r d) = at2 (m ((c : Thread nD τ).loc main_arg3)) (512 * (grid0.coords t 0).val + r.val) d.val := by
  unfold iblk
  blk_simp [V_main_arg3 m c]
  refine (at2_of _ _).trans ?_
  congr 1 <;> blk_simp [idx5 t] <;> (try dsimp only) <;> omega

theorem in6 (c : Dev nD) (t : Fin cfg0.N) (r : Fin 512) (d : Fin 512) :
    iblk m c 6 t (ix2 r d) = at2 (m ((c : Thread nD τ).loc main_arg4)) (512 * (grid0.coords t 0).val + r.val) d.val := by
  unfold iblk
  blk_simp [V_main_arg4 m c]
  refine (at2_of _ _).trans ?_
  congr 1 <;> blk_simp [idx6 t] <;> (try dsimp only) <;> omega

theorem in7 (c : Dev nD) (t : Fin cfg0.N) (r : Fin 256) (d : Fin 1024) :
    iblk m c 7 t (ix2 r d) = at2 (m ((c : Thread nD τ).loc main_arg5)) r.val d.val := by
  unfold iblk
  blk_simp
  refine (V_v0 m c _).trans ((at2_of _ _).trans ?_)
  congr 1 <;> blk_simp [idx7 t] <;> (try dsimp only) <;> omega

theorem in8 (c : Dev nD) (t : Fin cfg0.N) (r : Fin 256) (d : Fin 1024) :
    iblk m c 8 t (ix2 r d) = at2 (m ((c : Thread nD τ).loc main_arg6)) r.val d.val := by
  unfold iblk
  blk_simp
  refine (V_v1 m c _).trans ((at2_of _ _).trans ?_)
  congr 1 <;> blk_simp [idx8 t] <;> (try dsimp only) <;> omega

theorem in9 (c : Dev nD) (t : Fin cfg0.N) (r : Fin 512) (d : Fin 1024) :
    iblk m c 9 t (ix2 r d) = at2 (m ((c : Thread nD τ).loc main_arg7)) r.val d.val := by
  unfold iblk
  blk_simp
  refine (V_v2 m c _).trans ((at2_of _ _).trans ?_)
  congr 1 <;> blk_simp [idx9 t] <;> (try dsimp only) <;> omega

theorem in10 (c : Dev nD) (t : Fin cfg0.N) (r : Fin 1024) (d : Fin 1024) :
    iblk m c 10 t (ix2 r d) = at2 (m ((c : Thread nD τ).loc main_arg8)) r.val d.val := by
  unfold iblk
  blk_simp
  refine (V_v3 m c _).trans ((at2_of _ _).trans ?_)
  congr 1 <;> blk_simp [idx10 t] <;> (try dsimp only) <;> omega

theorem in1 (c : Dev nD) (t : Fin cfg0.N) (r : Fin 512) (d : Fin 1024) :
    X0_1 m c t (ix2 r d) = at2 (m ((c : Thread nD τ).loc main_arg1)) (512 * (grid0.coords t 0).val + r.val) (0 + d.val) := by
  unfold X0_1 Pipeline.Window.fill
  rw [dif_pos (moved0_1 t _)]
  unfold iblk
  blk_simp [V_main_arg1 m c]
  refine (at2_of _ _).trans ?_
  congr 1 <;> blk_simp [idx1 t] <;> (try dsimp only) <;> omega

theorem in2 (c : Dev nD) (t : Fin cfg0.N) (r : Fin 512) (d : Fin 1024) :
    X0_2 m c t (ix2 r d) = at2 (m ((c : Thread nD τ).loc main_arg1)) (512 * (grid0.coords t 0).val + r.val) (1024 + d.val) := by
  unfold X0_2 Pipeline.Window.fill
  rw [dif_pos (moved0_2 t _)]
  unfold iblk
  blk_simp [V_main_arg1 m c]
  refine (at2_of _ _).trans ?_
  congr 1 <;> blk_simp [idx2 t] <;> (try dsimp only) <;> omega

theorem in3 (c : Dev nD) (t : Fin cfg0.N) (r : Fin 512) (d : Fin 1024) :
    X0_3 m c t (ix2 r d) = at2 (m ((c : Thread nD τ).loc main_arg1)) (512 * (grid0.coords t 0).val + r.val) (2048 + d.val) := by
  unfold X0_3 Pipeline.Window.fill
  rw [dif_pos (moved0_3 t _)]
  unfold iblk
  blk_simp [V_main_arg1 m c]
  refine (at2_of _ _).trans ?_
  congr 1 <;> blk_simp [idx3 t] <;> (try dsimp only) <;> omega

/-- THE RESULT ARRAY: what the kernel leaves is the reference's result. -/
theorem final (c : Dev nD) :
    (dats m 0 c).arrAt 11 cfg0.N = Cert.Reference3Ideal.Read.val_main_v18 (F := Ideal) (m ((c : Thread nD τ).loc main_arg0))
      (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6))
      (m ((c : Thread nD τ).loc main_arg7)) (m ((c : Thread nD τ).loc main_arg8)) := by
  refine (dats m 0 c).arrAt_eq_of_covers 11 _ (by decide +kernel) fun t _ y => ?_
  blk_simp
  rw [after0_11]
  unfold outsAt0
  have ht : (grid0.coords t 0).val < 66 := (grid0.coords t 0).isLt
  obtain ⟨r, d, rfl⟩ := exists_ix2 (R := 512) (C := 1024) y
  refine (out_eq (r := r) (d := d) ..).trans ?_
  refine Eq.trans ?_ (ref_result (r := 512 * (grid0.coords t 0).val + r.val) (d := d.val) (hr := ?_) (hd := ?_) ..).symm
  · refine congrArg₂ _ (in0 m c t r d) (Finset.sum_congr rfl fun k _ => ?_)
    unfold mid
    simp only [in1, in2, in3, in4, in5, in6, in7, in8, in9, in10, zero_add]
  · blk_simp [idx11 t]
    omega
  · blk_simp [idx11 t]

end Cert.Kernel3Ideal.Merge

end
-- ==== Proof.Inproj.Block.lean ====
/- What one point of the input projection's grid leaves in its scratch and its output block. -/
module

public import proofs.«01_k».proof.Proof.Gen.Kernel4Ideal.Value
public import proofs.«01_k».proof.Proof.Common

@[expose] public section

set_option maxRecDepth 16384

noncomputable section

namespace Cert.Kernel4Ideal.Inproj

open Cert.Kernel4Ideal Cert.Kernel4Ideal.Gen Idealize.ShloMosaic Idealize.ShloMosaic.TcCoe Idealize.SL.Sem
open Cert.Common

/-- The reciprocal root of a mean, the small constant added. -/
def inv (q : EReal) : EReal := Ideal.rsqrt (q + Ideal.ofBits .f32 0x358637BD#32)

/-- The sigmoid as the kernel writes it. -/
def sgm (z : EReal) : EReal := Ideal.div 1 (1 + Ideal.exp (0 - z))

/-- An eighth. -/
def eighth : EReal := Ideal.ofBits .f32 0x3E000000#32

/-- A scratch row times a column of the weights. -/
def acc (u : FVec Ideal S1024x1024 .bf16) (w : FVec Ideal S1024x256 .bf16) (r : Fin 1024) (x : Fin 256) : EReal :=
  ∑ k : Fin 1024, u (ix2 r k) * w (ix2 k x)

theorem p1 (h : FVec Ideal S1024x1024 .f32) (g : FVec Ideal S1x1024 .f32) (r k : Fin 1024) :
    k0_pay1 (F := Ideal) h g (ix2 r k)
      = h (ix2 r k) * inv (Ideal.div (∑ x : Fin 1024, h (ix2 r x) * h (ix2 r x)) (Ideal.ofBits .f32 0x44800000#32)) * g (ix2 0 k) := by
  pointwise [k0_pay1]
  rfl

theorem p3 (u : FVec Ideal S1024x1024 .bf16) (w : FVec Ideal S1024x256 .bf16) (b : FVec Ideal S1x256 .f32) (r : Fin 1024) (x : Fin 256) :
    k0_pay3 (F := Ideal) u w b (ix2 r x) = sgm (acc u w r x + b (ix2 0 x)) := by
  pointwise [k0_pay3, k0_pay2]
  rfl

theorem p4 (u : FVec Ideal S1024x1024 .bf16) (w : FVec Ideal S1024x256 .bf16) (G : FVec Ideal S256x256 .bf16) (s : FVec Ideal S1x256 .f32) (r : Fin 1024) (x : Fin 256) :
    k0_pay4 (F := Ideal) u w G s (ix2 r x)
      = acc u w r x * inv ((∑ y : Fin 256, acc u w r y * acc u w r y * G (ix2 y x)) * Ideal.ofBits .f32 0x3C800000#32) * s (ix2 0 x) := by
  pointwise [k0_pay4, k0_pay2]
  rfl

theorem p5 (u : FVec Ideal S1024x1024 .bf16) (w : FVec Ideal S1024x256 .bf16) (s : FVec Ideal S1x256 .f32) (r : Fin 1024) (x : Fin 256) :
    k0_pay5 (F := Ideal) u w s (ix2 r x) = acc u w r x * s (ix2 0 x) := by
  pointwise [k0_pay5, k0_pay2]
  rfl

variable (c : Dev nD) (i : grid0.Coords)
  (arg2 : Memref sig .tc .vmem S1024x1024 .f32) (harg2 : arg2.IsWhole) (arg3 : Memref sig .tc .vmem S1x1024 .f32) (harg3 : arg3.IsWhole)
  (arg4 : Memref sig .tc .vmem S1024x256 .bf16) (harg4 : arg4.IsWhole) (arg5 : Memref sig .tc .vmem S1x256 .f32) (harg5 : arg5.IsWhole)
  (arg6 : Memref sig .tc .vmem S1x256 .f32) (harg6 : arg6.IsWhole) (arg7 : Memref sig .tc .vmem S256x256 .bf16) (harg7 : arg7.IsWhole)
  (arg8 : Memref sig .tc .vmem S1024x256 .bf16) (harg8 : arg8.IsWhole) (arg9 : Memref sig .tc .vmem S1024x1024 .bf16) (harg9 : arg9.IsWhole)
  (x0 : FVec Ideal S1024x1024 .f32) (x1 : FVec Ideal S1x1024 .f32) (x2 : FVec Ideal S1024x256 .bf16)
  (x3 x4 : FVec Ideal S1x256 .f32) (x5 : FVec Ideal S256x256 .bf16) (xs0 : FVec Ideal S1024x1024 .bf16)

theorem scrA (hc0 : cond0_0 i) (hc1 : cond0_1 i) (hc2 : ¬cond0_2 i) (hc3 : ¬cond0_3 i) :
    sout0_A_0 (F := Ideal) c i arg2 harg2 arg3 harg3 arg4 harg4 arg5 harg5 arg6 harg6 arg7 harg7 arg8 harg8 arg9 harg9
        hc0 hc1 hc2 hc3 x0 x1 x2 x3 x4 x5 = k0_pay1 (F := Ideal) x0 x1 := by
  funext y
  obtain ⟨r, d, rfl⟩ := exists_ix2 (R := 1024) (C := 1024) y
  frame_out

theorem outA (hc0 : cond0_0 i) (hc1 : cond0_1 i) (hc2 : ¬cond0_2 i) (hc3 : ¬cond0_3 i) (r : Fin 1024) (x : Fin 256) :
    out0_A_6 (F := Ideal) c i arg2 harg2 arg3 harg3 arg4 harg4 arg5 harg5 arg6 harg6 arg7 harg7 arg8 harg8 arg9 harg9
        hc0 hc1 hc2 hc3 x0 x1 x2 x3 x4 x5 (ix2 r x) = sgm (acc (k0_pay1 (F := Ideal) x0 x1) x2 r x + x4 (ix2 0 x)) := by
  frame_out
  exact p3 _ _ _ r x

theorem outB (hc0 : ¬cond0_0 i) (hc1 : cond0_1 i) (hc2 : ¬cond0_2 i) (hc3 : ¬cond0_3 i) (r : Fin 1024) (x : Fin 256) :
    out0_B_6 (F := Ideal) c i arg2 harg2 arg3 harg3 arg4 harg4 arg5 harg5 arg6 harg6 arg7 harg7 arg8 harg8 arg9 harg9
        hc0 hc1 hc2 hc3 x0 x1 x2 x3 x4 x5 xs0 (ix2 r x) = sgm (acc xs0 x2 r x + x4 (ix2 0 x)) := by
  frame_out
  exact p3 _ _ _ r x

theorem outC (hc0 : ¬cond0_0 i) (hc1 : ¬cond0_1 i) (hc2 : ¬cond0_2 i) (hc3 : cond0_3 i) (r : Fin 1024) (x : Fin 256) :
    out0_C_6 (F := Ideal) c i arg2 harg2 arg3 harg3 arg4 harg4 arg5 harg5 arg6 harg6 arg7 harg7 arg8 harg8 arg9 harg9
        hc0 hc1 hc2 hc3 x0 x1 x2 x3 x4 x5 xs0 (ix2 r x) = acc xs0 x2 r x * x3 (ix2 0 x) := by
  frame_out
  exact p5 _ _ _ r x

theorem outD (hc0 : ¬cond0_0 i) (hc1 : ¬cond0_1 i) (hc2 : cond0_2 i) (hc3 : ¬cond0_3 i) (r : Fin 1024) (x : Fin 256) :
    out0_D_6 (F := Ideal) c i arg2 harg2 arg3 harg3 arg4 harg4 arg5 harg5 arg6 harg6 arg7 harg7 arg8 harg8 arg9 harg9
        hc0 hc1 hc2 hc3 x0 x1 x2 x3 x4 x5 xs0 (ix2 r x)
      = acc xs0 x2 r x * inv ((∑ y : Fin 256, acc xs0 x2 r y * acc xs0 x2 r y * x5 (ix2 y x)) * Ideal.ofBits .f32 0x3C800000#32) * x3 (ix2 0 x) := by
  frame_out
  exact p4 _ _ _ _ r x

end Cert.Kernel4Ideal.Inproj

end
-- ==== Proof.Inproj.Lay.lean ====
/- Sixteen matrices side by side, read at a column. -/
module

public import proofs.«01_k».proof.Proof.Common
public import Idealize.ShloMosaic.Lib.KernelVsHost

@[expose] public section

set_option maxRecDepth 16384

noncomputable section

namespace Cert.Kernel4Ideal.Inproj

open Idealize.ShloMosaic Idealize.ShloMosaic.TcCoe
open Cert.Common

/-- A matrix of 33792 rows as a piece of a concatenation. -/
abbrev pc {w : ℕ} (x : (⟨2, ![33792, w]⟩ : Shape).Idx → EReal) : (s : Shape) × (s.Idx → EReal) := ⟨⟨2, ![33792, w]⟩, x⟩

/-- Piece `k` of the pieces laid side by side, which begins at column `pre` and has `w` columns, holds `f`. -/
theorem piece_at (xs : List ((s : Shape) × (s.Idx → EReal))) (h : Shape.Concatenates (xs.map (·.1)) (⟨2, ![33792, 6656]⟩ : Shape) 1)
    (i : (⟨2, ![33792, 6656]⟩ : Shape).Idx) (k pre w : ℕ) (hk : k < xs.length) (x : (⟨2, ![33792, w]⟩ : Shape).Idx → EReal)
    (hxk : xs[k] = pc x)
    (hpre : (((xs.take k).map (·.1)).map fun s => if h : s.rank = 2 then s.size ((1 : Fin 2).cast h.symm) else 0).sum = pre)
    (f : ℕ → ℕ → EReal) (hf : ∀ i, x i = f (i 0).val (i 1).val) (R C : ℕ) (hR : (i 0).val = R) (hC : (i 1).val = C)
    (hlo : pre ≤ C) (hhi : C < pre + w) :
    concatenate (⟨2, ![33792, 6656]⟩ : Shape) 1 xs h i = f R (C - pre) := by
  subst hR hC
  refine (concatenate_apply_piece 1 xs h i k hk _ x hxk rfl pre hpre
    (ix2 ⟨(i 0).val, (i 0).isLt⟩ ⟨(i 1).val - pre, by omega⟩) (fun a ha => ?_) (Nat.add_sub_cancel' hlo)).trans (hf _)
  match a with
  | ⟨0, _⟩ => rfl
  | ⟨1, _⟩ => exact absurd rfl ha

set_option maxHeartbeats 1000000 in
/-- Sixteen matrices side by side: the value at column `C` is that of the matrix whose columns hold it. -/
theorem side_by_side (x0 : (⟨2, ![33792, 3072]⟩ : Shape).Idx → EReal) (x1 : (⟨2, ![33792, 256]⟩ : Shape).Idx → EReal) (x2 : (⟨2, ![33792, 512]⟩ : Shape).Idx → EReal) (x3 : (⟨2, ![33792, 256]⟩ : Shape).Idx → EReal) (x4 : (⟨2, ![33792, 256]⟩ : Shape).Idx → EReal) (x5 : (⟨2, ![33792, 256]⟩ : Shape).Idx → EReal) (x6 : (⟨2, ![33792, 256]⟩ : Shape).Idx → EReal) (x7 : (⟨2, ![33792, 32]⟩ : Shape).Idx → EReal) (x8 : (⟨2, ![33792, 32]⟩ : Shape).Idx → EReal) (x9 : (⟨2, ![33792, 32]⟩ : Shape).Idx → EReal) (x10 : (⟨2, ![33792, 32]⟩ : Shape).Idx → EReal) (x11 : (⟨2, ![33792, 8]⟩ : Shape).Idx → EReal) (x12 : (⟨2, ![33792, 120]⟩ : Shape).Idx → EReal) (x13 : (⟨2, ![33792, 512]⟩ : Shape).Idx → EReal) (x14 : (⟨2, ![33792, 512]⟩ : Shape).Idx → EReal) (x15 : (⟨2, ![33792, 512]⟩ : Shape).Idx → EReal)
    (f0 f1 f2 f3 f4 f5 f6 f7 f8 f9 f10 f11 f12 f13 f14 f15 : ℕ → ℕ → EReal)
    (h0 : ∀ i, x0 i = f0 (i 0).val (i 1).val) (h1 : ∀ i, x1 i = f1 (i 0).val (i 1).val) (h2 : ∀ i, x2 i = f2 (i 0).val (i 1).val) (h3 : ∀ i, x3 i = f3 (i 0).val (i 1).val) (h4 : ∀ i, x4 i = f4 (i 0).val (i 1).val) (h5 : ∀ i, x5 i = f5 (i 0).val (i 1).val) (h6 : ∀ i, x6 i = f6 (i 0).val (i 1).val) (h7 : ∀ i, x7 i = f7 (i 0).val (i 1).val) (h8 : ∀ i, x8 i = f8 (i 0).val (i 1).val) (h9 : ∀ i, x9 i = f9 (i 0).val (i 1).val) (h10 : ∀ i, x10 i = f10 (i 0).val (i 1).val) (h11 : ∀ i, x11 i = f11 (i 0).val (i 1).val) (h12 : ∀ i, x12 i = f12 (i 0).val (i 1).val) (h13 : ∀ i, x13 i = f13 (i 0).val (i 1).val) (h14 : ∀ i, x14 i = f14 (i 0).val (i 1).val) (h15 : ∀ i, x15 i = f15 (i 0).val (i 1).val)
    (h : Shape.Concatenates (([pc x0, pc x1, pc x2, pc x3, pc x4, pc x5, pc x6, pc x7, pc x8, pc x9, pc x10, pc x11, pc x12, pc x13, pc x14, pc x15] : List ((s : Shape) × (s.Idx → EReal))).map (·.1)) (⟨2, ![33792, 6656]⟩ : Shape) 1)
    (i : (⟨2, ![33792, 6656]⟩ : Shape).Idx) (R C : ℕ) (hR : (i 0).val = R) (hC : (i 1).val = C) :
    concatenate (⟨2, ![33792, 6656]⟩ : Shape) 1 [pc x0, pc x1, pc x2, pc x3, pc x4, pc x5, pc x6, pc x7, pc x8, pc x9, pc x10, pc x11, pc x12, pc x13, pc x14, pc x15] h i =
    if C < 3072 then f0 R (C - 0)
    else if C < 3328 then f1 R (C - 3072)
    else if C < 3840 then f2 R (C - 3328)
    else if C < 4096 then f3 R (C - 3840)
    else if C < 4352 then f4 R (C - 4096)
    else if C < 4608 then f5 R (C - 4352)
    else if C < 4864 then f6 R (C - 4608)
    else if C < 4896 then f7 R (C - 4864)
    else if C < 4928 then f8 R (C - 4896)
    else if C < 4960 then f9 R (C - 4928)
    else if C < 4992 then f10 R (C - 4960)
    else if C < 5000 then f11 R (C - 4992)
    else if C < 5120 then f12 R (C - 5000)
    else if C < 5632 then f13 R (C - 5120)
    else if C < 6144 then f14 R (C - 5632)
    else f15 R (C - 6144) := by
  have hi : C < 6656 := hC ▸ (i 1).isLt
  by_cases c0 : C < 3072
  · rw [if_pos c0]
    exact piece_at _ h i 0 0 3072 (by show 0 < 16; omega) x0 rfl (by simp [pc, Fin.cast]) f0 h0 R C hR hC (by omega) (by omega)
  rw [if_neg c0]
  by_cases c1 : C < 3328
  · rw [if_pos c1]
    exact piece_at _ h i 1 3072 256 (by show 1 < 16; omega) x1 rfl (by simp [pc, Fin.cast]) f1 h1 R C hR hC (by omega) (by omega)
  rw [if_neg c1]
  by_cases c2 : C < 3840
  · rw [if_pos c2]
    exact piece_at _ h i 2 3328 512 (by show 2 < 16; omega) x2 rfl (by simp [pc, Fin.cast]) f2 h2 R C hR hC (by omega) (by omega)
  rw [if_neg c2]
  by_cases c3 : C < 4096
  · rw [if_pos c3]
    exact piece_at _ h i 3 3840 256 (by show 3 < 16; omega) x3 rfl (by simp [pc, Fin.cast]) f3 h3 R C hR hC (by omega) (by omega)
  rw [if_neg c3]
  by_cases c4 : C < 4352
  · rw [if_pos c4]
    exact piece_at _ h i 4 4096 256 (by show 4 < 16; omega) x4 rfl (by simp [pc, Fin.cast]) f4 h4 R C hR hC (by omega) (by omega)
  rw [if_neg c4]
  by_cases c5 : C < 4608
  · rw [if_pos c5]
    exact piece_at _ h i 5 4352 256 (by show 5 < 16; omega) x5 rfl (by simp [pc, Fin.cast]) f5 h5 R C hR hC (by omega) (by omega)
  rw [if_neg c5]
  by_cases c6 : C < 4864
  · rw [if_pos c6]
    exact piece_at _ h i 6 4608 256 (by show 6 < 16; omega) x6 rfl (by simp [pc, Fin.cast]) f6 h6 R C hR hC (by omega) (by omega)
  rw [if_neg c6]
  by_cases c7 : C < 4896
  · rw [if_pos c7]
    exact piece_at _ h i 7 4864 32 (by show 7 < 16; omega) x7 rfl (by simp [pc, Fin.cast]) f7 h7 R C hR hC (by omega) (by omega)
  rw [if_neg c7]
  by_cases c8 : C < 4928
  · rw [if_pos c8]
    exact piece_at _ h i 8 4896 32 (by show 8 < 16; omega) x8 rfl (by simp [pc, Fin.cast]) f8 h8 R C hR hC (by omega) (by omega)
  rw [if_neg c8]
  by_cases c9 : C < 4960
  · rw [if_pos c9]
    exact piece_at _ h i 9 4928 32 (by show 9 < 16; omega) x9 rfl (by simp [pc, Fin.cast]) f9 h9 R C hR hC (by omega) (by omega)
  rw [if_neg c9]
  by_cases c10 : C < 4992
  · rw [if_pos c10]
    exact piece_at _ h i 10 4960 32 (by show 10 < 16; omega) x10 rfl (by simp [pc, Fin.cast]) f10 h10 R C hR hC (by omega) (by omega)
  rw [if_neg c10]
  by_cases c11 : C < 5000
  · rw [if_pos c11]
    exact piece_at _ h i 11 4992 8 (by show 11 < 16; omega) x11 rfl (by simp [pc, Fin.cast]) f11 h11 R C hR hC (by omega) (by omega)
  rw [if_neg c11]
  by_cases c12 : C < 5120
  · rw [if_pos c12]
    exact piece_at _ h i 12 5000 120 (by show 12 < 16; omega) x12 rfl (by simp [pc, Fin.cast]) f12 h12 R C hR hC (by omega) (by omega)
  rw [if_neg c12]
  by_cases c13 : C < 5632
  · rw [if_pos c13]
    exact piece_at _ h i 13 5120 512 (by show 13 < 16; omega) x13 rfl (by simp [pc, Fin.cast]) f13 h13 R C hR hC (by omega) (by omega)
  rw [if_neg c13]
  by_cases c14 : C < 6144
  · rw [if_pos c14]
    exact piece_at _ h i 14 5632 512 (by show 14 < 16; omega) x14 rfl (by simp [pc, Fin.cast]) f14 h14 R C hR hC (by omega) (by omega)
  rw [if_neg c14]
  exact piece_at _ h i 15 6144 512 (by show 15 < 16; omega) x15 rfl (by simp [pc, Fin.cast]) f15 h15 R C hR hC (by omega) (by omega)

end Cert.Kernel4Ideal.Inproj

end
-- ==== Proof.Inproj.Reference.lean ====
/- What the reference's input projection holds at an index: the gates, the projected columns, the head norms and the
   zeros, side by side. -/
module

public import proofs.«01_k».proof.Proof.Common
public import proofs.«01_k».proof.Proof.Inproj.Block
public import proofs.«01_k».proof.Proof.Inproj.Lay
public import proofs.«01_k».proof.Proof.Gen.Reference4Ideal.Read
public import Idealize.ShloMosaic.Lib.KernelVsHost
public import Idealize.ShloMosaic.Lib.IdealHost

@[expose] public section

set_option maxRecDepth 16384

noncomputable section

namespace Cert.Kernel4Ideal.Inproj

open Cert.Reference4Ideal Cert.Reference4Ideal.Read Idealize.ShloMosaic Idealize.ShloMosaic.TcCoe Idealize.SL.Sem
open Cert.Common

variable (H : FVec Ideal (⟨2, ![33792, 1024]⟩ : Shape) .f32) (g : FVec Ideal (⟨1, ![1024]⟩ : Shape) .f32)
  (W : FVec Ideal (⟨2, ![1024, 6440]⟩ : Shape) .f32) (b : FVec Ideal (⟨1, ![3072]⟩ : Shape) .f32)
  (g4 g5 g6 g7 : FVec Ideal (⟨1, ![64]⟩ : Shape) .f32)

/-- Row `R` of the residual stream, normalised. -/
def nrm (R k : ℕ) : EReal :=
  at2 H R k * inv (Ideal.div (∑ x : Fin 1024, at2 H R x.val * at2 H R x.val) (Ideal.ofBits .f32 0x44800000#32)) * at1 g k

/-- Column `C` of the projection of row `R`. -/
def z (R C : ℕ) : EReal := ∑ k : Fin 1024, nrm H g R k.val * at2 W k.val C

/-- Place `y` of the heads of 64 that begin at column `base` of the projection, each head normalised, times its gain. -/
def hd (gain : FVec Ideal (⟨1, ![64]⟩ : Shape) .f32) (base R y : ℕ) : EReal :=
  z H g W R (base + y)
    * inv (Ideal.div (∑ x : Fin 64, z H g W R (base + (64 * (y / 64) + x.val)) * z H g W R (base + (64 * (y / 64) + x.val)))
        (Ideal.ofBits .f32 0x42800000#32))
    * at1 gain (y % 64)

theorem ref_z (i : S33792x6440.Idx) : val_main_v13 (F := Ideal) H g W i = z H g W (i 0).val (i 1).val := by
  simp only [val_main_v13_apply, val_main_v12_apply, val_main_v11_apply, val_main_v10_apply, val_main_v9_apply, val_main_v8_apply, val_main_v7_apply, val_main_v6_apply, val_main_v5_apply, val_main_v4_apply, val_main_v3_apply, val_main_v2_apply, val_main_v1_apply, val_main_v0_apply, at1_of g, at2_of H, at2_of W]
  show (∑ k : Fin 1024, at2 H _ _ * Ideal.rsqrt (Ideal.div (Ideal.ofBits .f32 0x00000000#32 + _) _ + _) * _ * _) = _
  rw [Ideal.ofBits_zero]
  simp only [zero_add]
  rfl

theorem ref_gate (i : S33792x3072.Idx) :
    val_main_v23 (F := Ideal) H g W b i = sgm (z H g W (i 0).val (3368 + (i 1).val) + at1 b (i 1).val) := by
  simp only [val_main_v23_apply, val_main_v22_apply, val_main_v21_apply, val_main_v20_apply, val_main_v19_apply, val_main_v18_apply, val_main_v17_apply, val_main_v16_apply, val_main_v15_apply, val_main_v14_apply, ref_z, at1_of b]
  show Ideal.div (Ideal.ofBits .f32 0x3F800000#32) (Ideal.ofBits .f32 0x3F800000#32 + Ideal.exp (- (z H g W _ _ + at1 b _))) = _
  rw [Ideal.ofBits_one_f32, ← zero_sub]
  rfl

theorem ref_v26 (i : S33792x256.Idx) : val_main_v26 (F := Ideal) H g W i = z H g W (i 0).val (i 1).val * eighth := by
  simp only [val_main_v26_apply, val_main_v25_apply, val_main_v24_apply, ref_z]
  rfl

theorem ref_v27 (i : S33792x512.Idx) : val_main_v27 (F := Ideal) H g W i = z H g W (i 0).val (256 + (i 1).val) := by
  rw [val_main_v27_apply, ref_z]

theorem ref_v62 (i : S33792x256.Idx) : val_main_v62 (F := Ideal) H g W i = z H g W (i 0).val (1280 + (i 1).val) := by
  rw [val_main_v62_apply, ref_z]

theorem ref_v63 (i : S33792x256.Idx) : val_main_v63 (F := Ideal) H g W i = z H g W (i 0).val (1536 + (i 1).val) := by
  rw [val_main_v63_apply, ref_z]

theorem ref_v64 (i : S33792x32.Idx) : val_main_v64 (F := Ideal) H g W i = z H g W (i 0).val (1792 + (i 1).val) := by
  rw [val_main_v64_apply, ref_z]

theorem ref_v65 (i : S33792x8.Idx) : val_main_v65 (F := Ideal) H g W i = z H g W (i 0).val (1824 + (i 1).val) := by
  rw [val_main_v65_apply, ref_z]

theorem ref_v100 (i : S33792x512.Idx) : val_main_v100 (F := Ideal) H g W i = z H g W (i 0).val (2856 + (i 1).val) := by
  rw [val_main_v100_apply, ref_z]

theorem ref_heads_768 (i : S33792x4x64.Idx) :
    val_main_v29 (F := Ideal) H g W i = z H g W (i 0).val (768 + (64 * (i 1).val + (i 2).val)) := by
  have h1 : (i 1).val < 4 := (i 1).isLt
  have h2 : (i 2).val < 64 := (i 2).isLt
  rw [val_main_v29_apply, val_main_v28_apply, ref_z]
  congr 1
  · show (((i 0).val * 4 + (i 1).val) * 64 + (i 2).val) / 256 = _
    omega
  · show 768 + (((i 0).val * 4 + (i 1).val) * 64 + (i 2).val) % 256 = _
    omega

theorem ref_v45 (i : S33792x256.Idx) :
    val_main_v45 (F := Ideal) H g W g4 i = hd H g W g4 768 (i 0).val (i 1).val * eighth := by
  have h1 : (i 1).val < 256 := (i 1).isLt
  have e0 : ((i 0).val * 256 + (i 1).val) / 256 = (i 0).val := by omega
  have e1 : ((i 0).val * 256 + (i 1).val) / 64 % 4 = (i 1).val / 64 := by omega
  have e2 : ((i 0).val * 256 + (i 1).val) % 64 = (i 1).val % 64 := by omega
  have e3 : 64 * ((i 1).val / 64) + (i 1).val % 64 = (i 1).val := by omega
  simp only [val_main_v45_apply, val_main_v44_apply, val_main_v43_apply, val_main_v42_apply, val_main_v41_apply, val_main_v40_apply, val_main_v39_apply, val_main_v38_apply, val_main_v37_apply, val_main_v36_apply, val_main_v35_apply, val_main_v34_apply, val_main_v33_apply, val_main_v32_apply, val_main_v31_apply, val_main_v30_apply, ref_heads_768, at1_of g4]
  show z H g W _ _ * Ideal.rsqrt (Ideal.div (Ideal.ofBits .f32 0x00000000#32 + _) _ + _) * _ * _ = _
  rw [Ideal.ofBits_zero, zero_add]
  simp only [e0, e1, e2, e3]
  rfl

theorem ref_heads_1024 (i : S33792x4x64.Idx) :
    val_main_v47 (F := Ideal) H g W i = z H g W (i 0).val (1024 + (64 * (i 1).val + (i 2).val)) := by
  have h1 : (i 1).val < 4 := (i 1).isLt
  have h2 : (i 2).val < 64 := (i 2).isLt
  rw [val_main_v47_apply, val_main_v46_apply, ref_z]
  congr 1
  · show (((i 0).val * 4 + (i 1).val) * 64 + (i 2).val) / 256 = _
    omega
  · show 1024 + (((i 0).val * 4 + (i 1).val) * 64 + (i 2).val) % 256 = _
    omega

theorem ref_v61 (i : S33792x256.Idx) :
    val_main_v61 (F := Ideal) H g W g5 i = hd H g W g5 1024 (i 0).val (i 1).val := by
  have h1 : (i 1).val < 256 := (i 1).isLt
  have e0 : ((i 0).val * 256 + (i 1).val) / 256 = (i 0).val := by omega
  have e1 : ((i 0).val * 256 + (i 1).val) / 64 % 4 = (i 1).val / 64 := by omega
  have e2 : ((i 0).val * 256 + (i 1).val) % 64 = (i 1).val % 64 := by omega
  have e3 : 64 * ((i 1).val / 64) + (i 1).val % 64 = (i 1).val := by omega
  simp only [val_main_v61_apply, val_main_v60_apply, val_main_v59_apply, val_main_v58_apply, val_main_v57_apply, val_main_v56_apply, val_main_v55_apply, val_main_v54_apply, val_main_v53_apply, val_main_v52_apply, val_main_v51_apply, val_main_v50_apply, val_main_v49_apply, val_main_v48_apply, ref_heads_1024, at1_of g5]
  show z H g W _ _ * Ideal.rsqrt (Ideal.div (Ideal.ofBits .f32 0x00000000#32 + _) _ + _) * _ = _
  rw [Ideal.ofBits_zero, zero_add]
  simp only [e0, e1, e2, e3]
  rfl

theorem ref_heads_1832 (i : S33792x8x64.Idx) :
    val_main_v67 (F := Ideal) H g W i = z H g W (i 0).val (1832 + (64 * (i 1).val + (i 2).val)) := by
  have h1 : (i 1).val < 8 := (i 1).isLt
  have h2 : (i 2).val < 64 := (i 2).isLt
  rw [val_main_v67_apply, val_main_v66_apply, ref_z]
  congr 1
  · show (((i 0).val * 8 + (i 1).val) * 64 + (i 2).val) / 512 = _
    omega
  · show 1832 + (((i 0).val * 8 + (i 1).val) * 64 + (i 2).val) % 512 = _
    omega

theorem ref_v83 (i : S33792x512.Idx) :
    val_main_v83 (F := Ideal) H g W g6 i = hd H g W g6 1832 (i 0).val (i 1).val * eighth := by
  have h1 : (i 1).val < 512 := (i 1).isLt
  have e0 : ((i 0).val * 512 + (i 1).val) / 512 = (i 0).val := by omega
  have e1 : ((i 0).val * 512 + (i 1).val) / 64 % 8 = (i 1).val / 64 := by omega
  have e2 : ((i 0).val * 512 + (i 1).val) % 64 = (i 1).val % 64 := by omega
  have e3 : 64 * ((i 1).val / 64) + (i 1).val % 64 = (i 1).val := by omega
  simp only [val_main_v83_apply, val_main_v82_apply, val_main_v81_apply, val_main_v80_apply, val_main_v79_apply, val_main_v78_apply, val_main_v77_apply, val_main_v76_apply, val_main_v75_apply, val_main_v74_apply, val_main_v73_apply, val_main_v72_apply, val_main_v71_apply, val_main_v70_apply, val_main_v69_apply, val_main_v68_apply, ref_heads_1832, at1_of g6]
  show z H g W _ _ * Ideal.rsqrt (Ideal.div (Ideal.ofBits .f32 0x00000000#32 + _) _ + _) * _ * _ = _
  rw [Ideal.ofBits_zero, zero_add]
  simp only [e0, e1, e2, e3]
  rfl

theorem ref_heads_2344 (i : S33792x8x64.Idx) :
    val_main_v85 (F := Ideal) H g W i = z H g W (i 0).val (2344 + (64 * (i 1).val + (i 2).val)) := by
  have h1 : (i 1).val < 8 := (i 1).isLt
  have h2 : (i 2).val < 64 := (i 2).isLt
  rw [val_main_v85_apply, val_main_v84_apply, ref_z]
  congr 1
  · show (((i 0).val * 8 + (i 1).val) * 64 + (i 2).val) / 512 = _
    omega
  · show 2344 + (((i 0).val * 8 + (i 1).val) * 64 + (i 2).val) % 512 = _
    omega

theorem ref_v99 (i : S33792x512.Idx) :
    val_main_v99 (F := Ideal) H g W g7 i = hd H g W g7 2344 (i 0).val (i 1).val := by
  have h1 : (i 1).val < 512 := (i 1).isLt
  have e0 : ((i 0).val * 512 + (i 1).val) / 512 = (i 0).val := by omega
  have e1 : ((i 0).val * 512 + (i 1).val) / 64 % 8 = (i 1).val / 64 := by omega
  have e2 : ((i 0).val * 512 + (i 1).val) % 64 = (i 1).val % 64 := by omega
  have e3 : 64 * ((i 1).val / 64) + (i 1).val % 64 = (i 1).val := by omega
  simp only [val_main_v99_apply, val_main_v98_apply, val_main_v97_apply, val_main_v96_apply, val_main_v95_apply, val_main_v94_apply, val_main_v93_apply, val_main_v92_apply, val_main_v91_apply, val_main_v90_apply, val_main_v89_apply, val_main_v88_apply, val_main_v87_apply, val_main_v86_apply, ref_heads_2344, at1_of g7]
  show z H g W _ _ * Ideal.rsqrt (Ideal.div (Ideal.ofBits .f32 0x00000000#32 + _) _ + _) * _ = _
  rw [Ideal.ofBits_zero, zero_add]
  simp only [e0, e1, e2, e3]
  rfl

theorem ref_zero (i : S33792x120.Idx) : val_main_v101 (F := Ideal) i = 0 := by
  rw [val_main_v101_apply, val_main_cst_19_apply]
  exact Ideal.ofBits_zero .f32

/-- Column `C` of row `R` of the laid-out projection. -/
def lay (R C : ℕ) : EReal :=
  if C < 3072 then sgm (z H g W R (3368 + C) + at1 b C)
  else if C < 3328 then z H g W R (C - 3072) * eighth
  else if C < 3840 then z H g W R (256 + (C - 3328))
  else if C < 4096 then hd H g W g4 768 R (C - 3840) * eighth
  else if C < 4352 then hd H g W g5 1024 R (C - 4096)
  else if C < 4608 then z H g W R (1280 + (C - 4352))
  else if C < 4864 then z H g W R (1536 + (C - 4608))
  else if C < 4896 then z H g W R (1792 + (C - 4864))
  else if C < 4928 then z H g W R (1792 + (C - 4896))
  else if C < 4960 then z H g W R (1792 + (C - 4928))
  else if C < 4992 then z H g W R (1792 + (C - 4960))
  else if C < 5000 then z H g W R (1824 + (C - 4992))
  else if C < 5120 then 0
  else if C < 5632 then hd H g W g6 1832 R (C - 5120) * eighth
  else if C < 6144 then hd H g W g7 2344 R (C - 5632)
  else z H g W R (2856 + (C - 6144))

/-- The reference's result is the laid-out projection. -/
theorem ref_lay (i : S33792x6656.Idx) (R C : ℕ) (hR : (i 0).val = R) (hC : (i 1).val = C) :
    val_main_v103 (F := Ideal) H g W b g4 g5 g6 g7 i = lay H g W b g4 g5 g6 g7 R C := by
  rw [val_main_v103_apply]
  show val_main_v102 (F := Ideal) H g W b g4 g5 g6 g7 i = _
  unfold val_main_v102
  refine (side_by_side (val_main_v23 (F := Ideal) H g W b) (val_main_v26 (F := Ideal) H g W) (val_main_v27 (F := Ideal) H g W) (val_main_v45 (F := Ideal) H g W g4) (val_main_v61 (F := Ideal) H g W g5) (val_main_v62 (F := Ideal) H g W) (val_main_v63 (F := Ideal) H g W) (val_main_v64 (F := Ideal) H g W) (val_main_v64 (F := Ideal) H g W) (val_main_v64 (F := Ideal) H g W) (val_main_v64 (F := Ideal) H g W) (val_main_v65 (F := Ideal) H g W) (val_main_v101 (F := Ideal)) (val_main_v83 (F := Ideal) H g W g6) (val_main_v99 (F := Ideal) H g W g7) (val_main_v100 (F := Ideal) H g W)
    (fun R C => sgm (z H g W R (3368 + C) + at1 b C)) (fun R C => z H g W R C * eighth) (fun R C => z H g W R (256 + C)) (fun R C => hd H g W g4 768 R C * eighth) (fun R C => hd H g W g5 1024 R C) (fun R C => z H g W R (1280 + C)) (fun R C => z H g W R (1536 + C)) (fun R C => z H g W R (1792 + C)) (fun R C => z H g W R (1792 + C)) (fun R C => z H g W R (1792 + C)) (fun R C => z H g W R (1792 + C)) (fun R C => z H g W R (1824 + C)) (fun _ _ => 0) (fun R C => hd H g W g6 1832 R C * eighth) (fun R C => hd H g W g7 2344 R C) (fun R C => z H g W R (2856 + C))
    (ref_gate H g W b) (ref_v26 H g W) (ref_v27 H g W) (ref_v45 H g W g4) (ref_v61 H g W g5) (ref_v62 H g W) (ref_v63 H g W) (ref_v64 H g W) (ref_v64 H g W) (ref_v64 H g W) (ref_v64 H g W) (ref_v65 H g W) (ref_zero) (ref_v83 H g W g6) (ref_v99 H g W g7) (ref_v100 H g W) _ i R C hR hC).trans ?_
  rfl

end Cert.Kernel4Ideal.Inproj

end
-- ==== Proof.Inproj.Scatter.lean ====
/- A vector with a run of its entries replaced. -/
module

public import proofs.«01_k».proof.Proof.Common
public import Idealize.ShloMosaic.Lib.Routing.OpsSet

@[expose] public section

noncomputable section

namespace Cert.Kernel4Ideal.Inproj

open Idealize.ShloMosaic Idealize.ShloMosaic.TcCoe
open Cert.Common

variable {N w : ℕ} (d : ScatterDims (⟨1, ![N]⟩ : Shape) (⟨1, ![1]⟩ : Shape) (⟨1, ![w]⟩ : Shape))

/-- Update `k` goes to the entry `k` places after the one named by the index word. -/
theorem lands (hi : d.insertedWindowDims = []) (hs : d.scatterDimsToOperandDims = [0]) (n : ℕ) (idx : IVec (⟨1, ![1]⟩ : Shape) 32)
    (hidx : ∀ j, (idx j).toInt = (n : Int)) (k : (⟨1, ![w]⟩ : Shape).Idx) (e : Fin N) :
    d.resultIdx? k idx = some (ix1 e) ↔ n + (k 0).val = e.val := by
  have hk : (0 : Fin 1) ∈ d.sKept :=
    List.mem_filter.2 ⟨List.mem_finRange _, decide_eq_true (by rw [hi]; exact List.not_mem_nil)⟩
  have hw : d.window k 0 = (k 0).val := by
    unfold ScatterDims.window
    rw [dif_pos hk]
    exact congrArg (fun a : Fin 1 => (k a).val) (Subsingleton.elim _ _)
  have hst : d.start k idx 0 = (n : Int) := by
    unfold ScatterDims.start
    rw [dif_pos (by rw [hs]; exact List.mem_singleton.2 rfl), hidx]
  refine (Routing.resultIdx?_ix1 d k idx e).trans ?_
  rw [hw, hst]
  omega

/-- The entries from `n` to `n + w` are the updates, the others those of the vector. -/
theorem scatter_run (hi : d.insertedWindowDims = []) (hs : d.scatterDimsToOperandDims = [0]) (n : ℕ)
    (x : (⟨1, ![N]⟩ : Shape).Idx → EReal) (idx : IVec (⟨1, ![1]⟩ : Shape) 32) (u : (⟨1, ![w]⟩ : Shape).Idx → EReal)
    (hidx : ∀ j, (idx j).toInt = (n : Int)) (f : ℕ → EReal) (hf : ∀ j, u j = f (j 0).val) (i : (⟨1, ![N]⟩ : Shape).Idx) :
    Host.scatter d (fun _ b => b) x idx u i
      = if n ≤ (i 0).val ∧ (i 0).val < n + w then f ((i 0).val - n) else x i := by
  obtain ⟨e, rfl⟩ : ∃ e : Fin N, i = ix1 e := ⟨i 0, funext fun a => by match a with | ⟨0, _⟩ => rfl⟩
  show _ = if n ≤ e.val ∧ e.val < n + w then f (e.val - n) else x (ix1 e)
  by_cases h : n ≤ e.val ∧ e.val < n + w
  · rw [if_pos h]
    refine Routing.scatter_set_hit d x idx u _ _ (fun k hk => ?_) (ix1 ⟨e.val - n, by omega⟩) ?_
    · have := (lands d hi hs n idx hidx k e).1 hk
      rw [hf]
      exact congrArg f (by omega)
    · exact (lands d hi hs n idx hidx _ e).2 (by show n + (e.val - n) = e.val; omega)
  · rw [if_neg h]
    refine Routing.scatter_set_miss d x idx u _ fun k hk => h ?_
    have := (lands d hi hs n idx hidx k e).1 hk
    have hlt : (k 0).val < w := (k 0).isLt
    omega

end Cert.Kernel4Ideal.Inproj

end
-- ==== Proof.Inproj.Host.lean ====
/- The arrays that the host prepares for the input projection: the scales, the biases, the gain, the weights in their
   new order and the head indicator. -/
module

public import proofs.«01_k».proof.Proof.Common
public import proofs.«01_k».proof.Proof.Inproj.Block
public import proofs.«01_k».proof.Proof.Inproj.Scatter
public import Idealize.ShloMosaic.Lib.StableHlo.ReadAt
public import Idealize.ShloMosaic.Lib.KernelVsHost
public import Idealize.ShloMosaic.Lib.IdealHost

@[expose] public section

set_option maxRecDepth 16384

noncomputable section

namespace Cert.Kernel4Ideal.Inproj

open Cert.Kernel4Ideal Cert.Kernel4Ideal.Gen Idealize.ShloMosaic Idealize.ShloMosaic.TcCoe Idealize.SL.Sem
open Cert.Common

variable (m : (ℓ : Loc nD τ sig) → Buf (Elt Ideal) ℓ)

theorem V_gain (c : Dev nD) (i : (⟨2, ![1, 1024]⟩ : Shape).Idx) :
    (V (F := Ideal) m c main_v33 : FVec Ideal (⟨2, ![1, 1024]⟩ : Shape) .f32) i
      = at1 (m ((c : Thread nD τ).loc main_arg1)) (i 1).val := by
  refine Eq.trans ?_ (at1_of _ (ix1 (i 1)))
  unfold V
  after_reads_at

theorem else_eq {P : Prop} [Decidable P] {a e e' : EReal} (h : e = e') : (if P then a else e) = if P then a else e' := by rw [h]

/-- The bias of column `C`: the gates' bias, and none elsewhere. -/
def bias (b : FVec Ideal (⟨1, ![3072]⟩ : Shape) .f32) (C : ℕ) : EReal :=
  if 0 ≤ C ∧ C < 0 + 3072 then at1 b (C - 0) else 0

/-- The scale of column `C`: the queries' eighth, the head norms' gains, an eighth with the queries' gains, and one. -/
def scale (g4 g5 g6 g7 : FVec Ideal (⟨1, ![64]⟩ : Shape) .f32) (C : ℕ) : EReal :=
  if 5632 ≤ C ∧ C < 5632 + 512 then at1 g7 ((C - 5632) % 64)
  else if 5120 ≤ C ∧ C < 5120 + 512 then at1 g6 ((C - 5120) % 64) * eighth
  else if 4096 ≤ C ∧ C < 4096 + 256 then at1 g5 ((C - 4096) % 64)
  else if 3840 ≤ C ∧ C < 3840 + 256 then at1 g4 ((C - 3840) % 64) * eighth
  else if 3072 ≤ C ∧ C < 3072 + 256 then eighth
  else 1

theorem V_cb (c : Dev nD) (i : (⟨2, ![1, 6656]⟩ : Shape).Idx) :
    (V (F := Ideal) m c main_v32 : FVec Ideal (⟨2, ![1, 6656]⟩ : Shape) .f32) i
      = bias (m ((c : Thread nD τ).loc main_arg3)) (i 1).val := by
  unfold V
  after_reads_at
  refine (scatter_run _ rfl rfl 0 _ _ _ (fun _ => rfl) (fun y => at1 (m ((c : Thread nD τ).loc main_arg3)) y) (fun j => at1_of _ _) _).trans ?_
  exact else_eq (Ideal.ofBits_zero .f32)

theorem V_cs (c : Dev nD) (i : (⟨2, ![1, 6656]⟩ : Shape).Idx) :
    (V (F := Ideal) m c main_v31 : FVec Ideal (⟨2, ![1, 6656]⟩ : Shape) .f32) i
      = scale (m ((c : Thread nD τ).loc main_arg4)) (m ((c : Thread nD τ).loc main_arg5)) (m ((c : Thread nD τ).loc main_arg6)) (m ((c : Thread nD τ).loc main_arg7)) (i 1).val := by
  unfold V
  after_reads_at
  refine (scatter_run _ rfl rfl 5632 _ _ _ (fun _ => rfl) (fun y => at1 (m ((c : Thread nD τ).loc main_arg7)) (y % 64)) (fun j => at1_of _ _) _).trans ?_
  refine else_eq ?_
  refine (scatter_run _ rfl rfl 5120 _ _ _ (fun _ => rfl) (fun y => at1 (m ((c : Thread nD τ).loc main_arg6)) (y % 64) * eighth)
    (fun j => congrArg (· * eighth) (at1_of (m ((c : Thread nD τ).loc main_arg6)) _)) _).trans ?_
  refine else_eq ?_
  refine (scatter_run _ rfl rfl 4096 _ _ _ (fun _ => rfl) (fun y => at1 (m ((c : Thread nD τ).loc main_arg5)) (y % 64)) (fun j => at1_of _ _) _).trans ?_
  refine else_eq ?_
  refine (scatter_run _ rfl rfl 3840 _ _ _ (fun _ => rfl) (fun y => at1 (m ((c : Thread nD τ).loc main_arg4)) (y % 64) * eighth)
    (fun j => congrArg (· * eighth) (at1_of (m ((c : Thread nD τ).loc main_arg4)) _)) _).trans ?_
  refine else_eq ?_
  refine (scatter_run _ rfl rfl 3072 _ _ _ (fun _ => rfl) (fun _ => eighth) (fun j => rfl) _).trans ?_
  exact else_eq Ideal.ofBits_one_f32

/-- Column `C` of the weights in their new order: the gates' columns, the queries, keys and values, the shared key four
    times, the eight index columns with zeros beside them, the last three groups of heads. -/
def wcol (W : FVec Ideal (⟨2, ![1024, 6440]⟩ : Shape) .f32) (k C : ℕ) : EReal :=
  if C < 3072 then at2 W k (3368 + C)
  else if C - 3072 < 1792 then at2 W k (C - 3072)
  else if C - 3072 - 1792 < 128 then at2 W k (1792 + (C - 3072 - 1792) % 32)
  else if C - 3072 - 1792 - 128 < 128 then (if C - 3072 - 1792 - 128 < 8 then at2 W k (1824 + (C - 3072 - 1792 - 128)) else 0)
  else at2 W k (1832 + (C - 3072 - 1792 - 128 - 128))

/-- The shared key's 32 columns, four times. -/
theorem tile_at (W : FVec Ideal (⟨2, ![1024, 6440]⟩ : Shape) .f32) (r : Fin 1024) (y : Fin 128) :
    shapeCast S1024x128
      (broadcastInDim S1x1024x4x32 ![0, 1, 2, 3] bcast_S1x1024x1x32_S1x1024x4x32_0_1_2_3
        (shapeCast S1x1024x1x32 (extractStridedSlice S1024x32 ![0, 1792] W slices_S1024x6440_S1024x32_0_1792)
          shapeCasts_S1024x32_S1x1024x1x32))
      shapeCasts_S1x1024x4x32_S1024x128 (ix2 r y) = at2 W r.val (1792 + y.val % 32) := by
  have hr := r.isLt
  have hy := y.isLt
  have hm : y.val % 32 < 32 := Nat.mod_lt _ (by omega)
  refine (shapeCast_apply _ _ _ (ix4 (⟨0, by omega⟩ : Fin 1) r (⟨y.val / 32, by omega⟩ : Fin 4) (⟨y.val % 32, hm⟩ : Fin 32)) ?_).trans ?_
  · rewrite [Shape.rowMajor_val_two, Shape.rowMajor_val_four]
    show ((0 * 1024 + r.val) * 4 + y.val / 32) * 32 + y.val % 32 = r.val * 128 + y.val
    omega
  refine (broadcastInDim_apply _ _ _ _ (ix4 (⟨0, by omega⟩ : Fin 1) r (⟨0, by omega⟩ : Fin 1) (⟨y.val % 32, hm⟩ : Fin 32)) (fun a => ?_)).trans ?_
  · match a with
    | ⟨0, _⟩ => rfl
    | ⟨1, _⟩ => show r.val = if (1024 : Nat) = 1 then 0 else r.val; rw [if_neg (by decide)]
    | ⟨2, _⟩ => rfl
    | ⟨3, _⟩ => show y.val % 32 = if (32 : Nat) = 1 then 0 else y.val % 32; rw [if_neg (by decide)]
  refine (shapeCast_apply _ _ _ (ix2 r (⟨y.val % 32, hm⟩ : Fin 32)) ?_).trans ?_
  · rewrite [Shape.rowMajor_val_two, Shape.rowMajor_val_four]
    show r.val * 32 + y.val % 32 = ((0 * 1024 + r.val) * 1 + 0) * 32 + y.val % 32
    omega
  refine (extractStridedSlice_apply _ W _ _ (ix2 r (⟨1792 + y.val % 32, by omega⟩ : Fin 6440)) (fun a => ?_)).trans (at2_ix W _ _)
  match a with
  | ⟨0, _⟩ => show r.val = 0 + r.val; omega
  | ⟨1, _⟩ => rfl

/-- The eight index columns, zeros beside them. -/
theorem pad_at (W : FVec Ideal (⟨2, ![1024, 6440]⟩ : Shape) .f32) (r : Fin 1024) (y : Fin 128) :
    pad S1024x128 ![0, 0] ![0, 120] ![0, 0] (extractStridedSlice S1024x8 ![0, 1824] W slices_S1024x6440_S1024x8_0_1824)
      (sitofp .f32 (constantI S_ 32 0#32) : FVec Ideal S_ .f32) pads_S1024x8_S1024x128_000_01200 h_S_ (ix2 r y)
      = if y.val < 8 then at2 W r.val (1824 + y.val) else 0 := by
  have hr := r.isLt
  by_cases h : y.val < 8
  · rw [if_pos h]
    refine (pad_apply_of_inside _ _ _ _ _ _ _ (ix2 r y) (ix2 r (⟨y.val, h⟩ : Fin 8)) (fun a => ?_)).trans ?_
    · match a with
      | ⟨0, _⟩ => show r.val = 0 + r.val * 1; omega
      | ⟨1, _⟩ => show y.val = 0 + y.val * 1; omega
    refine (extractStridedSlice_apply _ W _ _ (ix2 r (⟨1824 + y.val, by omega⟩ : Fin 6440)) (fun a => ?_)).trans (at2_ix W _ _)
    match a with
    | ⟨0, _⟩ => show r.val = 0 + r.val; omega
    | ⟨1, _⟩ => rfl
  · rw [if_neg h]
    refine (pad_apply_of_not_inside _ _ _ _ _ _ _ (ix2 r y) 1 ?_).trans ?_
    · rintro ⟨-, -, hhi⟩
      have hhi : (y.val - 0) / 1 < 8 := hhi
      omega
    · show ((((0#32 : BitVec 32).toInt : ℤ) : ℝ) : EReal) = 0
      simp

theorem V_w (c : Dev nD) (i : (⟨2, ![1024, 6656]⟩ : Shape).Idx) :
    (V (F := Ideal) m c main_v44 : FVec Ideal (⟨2, ![1024, 6656]⟩ : Shape) .bf16) i
      = wcol (m ((c : Thread nD τ).loc main_arg2)) (i 0).val (i 1).val := by
  have h1 : (i 1).val < 6656 := (i 1).isLt
  unfold V
  after_reads_at
  unfold wcol
  by_cases c0 : (i 1).val < 3072
  · rw [dif_pos c0, if_pos c0]
    after_reads_at
    exact at2_of _ _
  rw [dif_neg c0, if_neg c0]
  by_cases c1 : (i 1).val - 3072 < 1792
  · rw [dif_pos c1, if_pos c1]
    after_reads_at
    exact at2_of _ _
  rw [dif_neg c1, if_neg c1]
  by_cases c2 : (i 1).val - 3072 - 1792 < 128
  · rw [dif_pos c2, if_pos c2]
    after_reads_simp
    exact tile_at (m ((c : Thread nD τ).loc main_arg2)) (i 0) ⟨(i 1).val - 3072 - 1792, c2⟩
  rw [dif_neg c2, if_neg c2]
  by_cases c3 : (i 1).val - 3072 - 1792 - 128 < 128
  · rw [dif_pos c3, if_pos c3]
    after_reads_simp
    exact pad_at (m ((c : Thread nD τ).loc main_arg2)) (i 0) ⟨(i 1).val - 3072 - 1792 - 128, c3⟩
  rw [dif_neg c3, if_neg c3]
  after_reads_at
  exact at2_of _ _

end Cert.Kernel4Ideal.Inproj

end
-- ==== Proof.Inproj.Column.lean ====
/- One entry of the kernel's result, in its own order of columns, is the laid-out projection's. -/
module

public import proofs.«01_k».proof.Proof.Inproj.Reference
public import proofs.«01_k».proof.Proof.Inproj.Host

@[expose] public section

set_option maxRecDepth 16384

noncomputable section

namespace Cert.Kernel4Ideal.Inproj

open Idealize.ShloMosaic Idealize.ShloMosaic.TcCoe
open Cert.Common

theorem word_64 : Ideal.ofBits .f32 0x42800000#32 = ((64 : ℝ) : EReal) := by
  simp [Ideal.ofBits, Ideal.ieee, -EReal.coe_mul]; norm_num

theorem word_inv64 : Ideal.ofBits .f32 0x3C800000#32 = (((1 : ℝ) / 64 : ℝ) : EReal) := by
  simp [Ideal.ofBits, Ideal.ieee, -EReal.coe_mul]; norm_num

/-- A product with a 64th is the quotient by 64. -/
theorem mean_64 (s : EReal) : s * Ideal.ofBits .f32 0x3C800000#32 = Ideal.div s (Ideal.ofBits .f32 0x42800000#32) := by
  rw [word_64, word_inv64, Ideal.div_coe (by norm_num)]

/-- A sum over 256 columns of which only those of head `n` count. -/
theorem sum_head (f : ℕ → EReal) (n : ℕ) (hn : n < 4) :
    ∑ y : Fin 256, f y.val * (if y.val / 64 = n then 1 else 0) = ∑ x : Fin 64, f (64 * n + x.val) := by
  rw [← (finProdFinEquiv (m := 4) (n := 64)).sum_comp (fun y : Fin 256 => f y.val * (if y.val / 64 = n then (1 : EReal) else 0)),
    Fintype.sum_prod_type, Finset.sum_eq_single (⟨n, hn⟩ : Fin 4)]
  · refine Finset.sum_congr rfl fun x _ => ?_
    have hx := x.isLt
    show f (x.val + 64 * n) * (if (x.val + 64 * n) / 64 = n then 1 else 0) = _
    rw [if_pos (by omega), mul_one, Nat.add_comm]
  · intro a _ ha
    refine Finset.sum_eq_zero fun x _ => ?_
    have hx := x.isLt
    have ha' : a.val ≠ n := fun h => ha (Fin.ext h)
    show f (x.val + 64 * a.val) * (if (x.val + 64 * a.val) / 64 = n then 1 else 0) = 0
    rw [if_neg (by omega), mul_zero]
  · exact fun h => absurd (Finset.mem_univ _) h

variable (H : FVec Ideal (⟨2, ![33792, 1024]⟩ : Shape) .f32) (g : FVec Ideal (⟨1, ![1024]⟩ : Shape) .f32)
  (W : FVec Ideal (⟨2, ![1024, 6440]⟩ : Shape) .f32) (b : FVec Ideal (⟨1, ![3072]⟩ : Shape) .f32)
  (g4 g5 g6 g7 : FVec Ideal (⟨1, ![64]⟩ : Shape) .f32)

/-- Column `C` of the kernel's projection of row `R`. -/
def kz (R C : ℕ) : EReal := ∑ k : Fin 1024, nrm H g R k.val * wcol W k.val C

/-- Where the weights' column is the projection's column `D`, the products agree. -/
theorem kz_of (R C D : ℕ) (h : ∀ k, wcol W k C = at2 W k D) : kz H g W R C = z H g W R D := by
  unfold kz z
  simp only [h]

theorem kz_gate (R C : ℕ) (h : C < 3072) : kz H g W R C = z H g W R (3368 + C) :=
  kz_of H g W R C _ fun k => by unfold wcol; rw [if_pos h]

theorem kz_heads (R C : ℕ) (h : 3072 ≤ C) (h' : C < 4864) : kz H g W R C = z H g W R (C - 3072) :=
  kz_of H g W R C _ fun k => by unfold wcol; rw [if_neg (by omega), if_pos (by omega)]

theorem kz_key (R C : ℕ) (h : 4864 ≤ C) (h' : C < 4992) : kz H g W R C = z H g W R (1792 + (C - 4864) % 32) :=
  kz_of H g W R C _ fun k => by
    unfold wcol
    rw [if_neg (by omega), if_neg (by omega), if_pos (by omega), show C - 3072 - 1792 = C - 4864 by omega]

theorem kz_index (R C : ℕ) (h : 4992 ≤ C) (h' : C < 5000) : kz H g W R C = z H g W R (1824 + (C - 4992)) :=
  kz_of H g W R C _ fun k => by
    unfold wcol
    rw [if_neg (by omega), if_neg (by omega), if_neg (by omega), if_pos (by omega), if_pos (by omega), show C - 3072 - 1792 - 128 = C - 4992 by omega]

theorem kz_none (R C : ℕ) (h : 5000 ≤ C) (h' : C < 5120) : kz H g W R C = 0 := by
  unfold kz
  refine Finset.sum_eq_zero fun k _ => ?_
  unfold wcol
  rw [if_neg (by omega), if_neg (by omega), if_neg (by omega), if_pos (by omega), if_neg (by omega), mul_zero]

theorem kz_last (R C : ℕ) (h : 5120 ≤ C) : kz H g W R C = z H g W R (1832 + (C - 5120)) :=
  kz_of H g W R C _ fun k => by
    unfold wcol
    rw [if_neg (by omega), if_neg (by omega), if_neg (by omega), if_neg (by omega), show C - 3072 - 1792 - 128 - 128 = C - 5120 by omega]

/-- The gates. -/
theorem gate_col (R C : ℕ) (h : C < 3072) : sgm (kz H g W R C + bias b C) = lay H g W b g4 g5 g6 g7 R C := by
  rw [kz_gate H g W R C h]
  unfold bias lay
  rw [if_pos (by omega), if_pos h]
  rfl

/-- The columns that are scaled alone. -/
theorem plain_col (R C : ℕ)
    (h : (3072 ≤ C ∧ C < 3840) ∨ (4352 ≤ C ∧ C < 5120) ∨ (6144 ≤ C ∧ C < 6656)) :
    kz H g W R C * scale g4 g5 g6 g7 C = lay H g W b g4 g5 g6 g7 R C := by
  have es : scale g4 g5 g6 g7 C = if C < 3328 then eighth else 1 := by
    unfold scale
    rw [if_neg (by omega), if_neg (by omega), if_neg (by omega), if_neg (by omega)]
    by_cases c : C < 3328
    · rw [if_pos c, if_pos (by omega)]
    · rw [if_neg c, if_neg (by omega)]
  rw [es]
  unfold lay
  rw [if_neg (show ¬C < 3072 by omega)]
  by_cases c1 : C < 3328
  · rw [if_pos c1, if_pos c1, kz_heads H g W R C (by omega) (by omega)]
  rw [if_neg c1, if_neg c1, mul_one]
  by_cases c2 : C < 3840
  · rw [if_pos c2, kz_heads H g W R C (by omega) (by omega)]
    exact congrArg (z H g W R) (by omega)
  rw [if_neg c2, if_neg (by omega), if_neg (by omega)]
  by_cases c3 : C < 4608
  · rw [if_pos c3, kz_heads H g W R C (by omega) (by omega)]
    exact congrArg (z H g W R) (by omega)
  rw [if_neg c3]
  by_cases c4 : C < 4864
  · rw [if_pos c4, kz_heads H g W R C (by omega) (by omega)]
    exact congrArg (z H g W R) (by omega)
  rw [if_neg c4]
  by_cases c5 : C < 4992
  · rw [kz_key H g W R C (by omega) c5]
    by_cases d1 : C < 4896
    · rw [if_pos d1]; exact congrArg (z H g W R) (by omega)
    rw [if_neg d1]
    by_cases d2 : C < 4928
    · rw [if_pos d2]; exact congrArg (z H g W R) (by omega)
    rw [if_neg d2]
    by_cases d3 : C < 4960
    · rw [if_pos d3]; exact congrArg (z H g W R) (by omega)
    rw [if_neg d3, if_pos c5]
    exact congrArg (z H g W R) (by omega)
  rw [if_neg (by omega), if_neg (by omega), if_neg (by omega), if_neg c5]
  by_cases c6 : C < 5000
  · rw [if_pos c6, kz_index H g W R C (by omega) c6]
  rw [if_neg c6]
  by_cases c7 : C < 5120
  · rw [if_pos c7, kz_none H g W R C (by omega) c7]
  rw [if_neg c7, if_neg (by omega), if_neg (by omega), kz_last H g W R C (by omega)]
  exact congrArg (z H g W R) (by omega)

/-- A head norm before its gain, at place `x` of 256 columns from `S` on that are the projection's columns from `base`
    plus `256 * q` on. -/
theorem head_col (R S base q : ℕ) (hk : ∀ y, y < 256 → kz H g W R (S + y) = z H g W R (base + (256 * q + y))) (x : ℕ) (hx : x < 256) :
    kz H g W R (S + x)
        * inv ((∑ y : Fin 256, kz H g W R (S + y.val) * kz H g W R (S + y.val) * (if y.val / 64 = x / 64 then 1 else 0))
          * Ideal.ofBits .f32 0x3C800000#32)
      = z H g W R (base + (256 * q + x))
        * inv (Ideal.div (∑ v : Fin 64, z H g W R (base + (64 * ((256 * q + x) / 64) + v.val)) * z H g W R (base + (64 * ((256 * q + x) / 64) + v.val)))
          (Ideal.ofBits .f32 0x42800000#32)) := by
  rw [mean_64, sum_head (fun y => kz H g W R (S + y) * kz H g W R (S + y)) (x / 64) (by omega), hk x hx]
  have e : ∀ v : Fin 64, kz H g W R (S + (64 * (x / 64) + v.val)) = z H g W R (base + (64 * ((256 * q + x) / 64) + v.val)) := fun v => by
    have hv := v.isLt
    rw [hk _ (by omega)]
    exact congrArg (z H g W R) (by omega)
  simp only [e]

/-- The same with its gain, where the heads begin at column `off` of the result. -/
theorem head_gain (gain : FVec Ideal (⟨1, ![64]⟩ : Shape) .f32) (R S base off q : ℕ) (hS : S = off + 256 * q)
    (hk : ∀ y, y < 256 → kz H g W R (S + y) = z H g W R (base + (256 * q + y))) (x : ℕ) (hx : x < 256) :
    kz H g W R (S + x)
        * inv ((∑ y : Fin 256, kz H g W R (S + y.val) * kz H g W R (S + y.val) * (if y.val / 64 = x / 64 then 1 else 0))
          * Ideal.ofBits .f32 0x3C800000#32) * at1 gain ((S + x - off) % 64)
      = hd H g W gain base R (S + x - off) := by
  rw [head_col H g W R S base q hk x hx, show S + x - off = 256 * q + x by omega]
  rfl

/-- The columns whose heads are normalised. -/
theorem norm_col (R J x : ℕ) (hx : x < 256) (hJ : J = 15 ∨ J = 16 ∨ J = 20 ∨ J = 21 ∨ J = 22 ∨ J = 23) :
    kz H g W R (256 * J + x)
        * inv ((∑ y : Fin 256, kz H g W R (256 * J + y.val) * kz H g W R (256 * J + y.val) * (if y.val / 64 = x / 64 then 1 else 0))
          * Ideal.ofBits .f32 0x3C800000#32)
        * scale g4 g5 g6 g7 (256 * J + x)
      = lay H g W b g4 g5 g6 g7 R (256 * J + x) := by
  have heads : ∀ base q, 256 * J = base + 256 * q + 3072 → J < 19 →
      ∀ y, y < 256 → kz H g W R (256 * J + y) = z H g W R (base + (256 * q + y)) := fun base q h hJ y hy => by
    rw [kz_heads H g W R _ (by omega) (by omega)]
    exact congrArg (z H g W R) (by omega)
  have last : ∀ base q, 256 * J + 1832 = base + 256 * q + 5120 → 20 ≤ J →
      ∀ y, y < 256 → kz H g W R (256 * J + y) = z H g W R (base + (256 * q + y)) := fun base q h hJ y hy => by
    rw [kz_last H g W R _ (by omega)]
    exact congrArg (z H g W R) (by omega)
  unfold scale
  have c0 : ¬256 * J + x < 3840 := by omega
  by_cases h15 : J = 15
  · rw [if_neg (by omega), if_neg (by omega), if_neg (by omega), if_pos (by omega), ← mul_assoc,
      head_gain H g W g4 R (256 * J) 768 3840 0 (by omega) (heads 768 0 (by omega) (by omega)) x hx]
    unfold lay
    rw [if_neg (by omega), if_neg (by omega), if_neg c0, if_pos (by omega)]
  by_cases h16 : J = 16
  · rw [if_neg (by omega), if_neg (by omega), if_pos (by omega),
      head_gain H g W g5 R (256 * J) 1024 4096 0 (by omega) (heads 1024 0 (by omega) (by omega)) x hx]
    unfold lay
    rw [if_neg (by omega), if_neg (by omega), if_neg c0, if_neg (by omega), if_pos (by omega)]
  by_cases h20 : J = 20 ∨ J = 21
  · rw [if_neg (by omega), if_pos (by omega), ← mul_assoc,
      head_gain H g W g6 R (256 * J) 1832 5120 (J - 20) (by omega) (last 1832 (J - 20) (by omega) (by omega)) x hx]
    unfold lay
    rw [if_neg (by omega), if_neg (by omega), if_neg c0, if_neg (by omega), if_neg (by omega), if_neg (by omega), if_neg (by omega),
      if_neg (by omega), if_neg (by omega), if_neg (by omega), if_neg (by omega), if_neg (by omega), if_neg (by omega), if_pos (by omega)]
  · rw [if_pos (by omega),
      head_gain H g W g7 R (256 * J) 2344 5632 (J - 22) (by omega) (last 2344 (J - 22) (by omega) (by omega)) x hx]
    unfold lay
    rw [if_neg (by omega), if_neg (by omega), if_neg c0, if_neg (by omega), if_neg (by omega), if_neg (by omega), if_neg (by omega),
      if_neg (by omega), if_neg (by omega), if_neg (by omega), if_neg (by omega), if_neg (by omega), if_neg (by omega), if_neg (by omega), if_pos (by omega)]

end Cert.Kernel4Ideal.Inproj

end
-- ==== Proof.Inproj.Heads.lean ====
module

public import proofs.«01_k».proof.Kernel4Ideal
public import Idealize.ShloMosaic.Lib.KernelVsHost
@[expose] public section

/-!
The constant of the head norm. The kernel sums the squares of a head's sixty-four columns by a
product with an indicator matrix of 256 × 256 words: one where row and column lie in the same
head, zero elsewhere. The table is stored in runs of 128 words, two to a row; only three kinds of
run occur.
-/

set_option maxRecDepth 16384

noncomputable section

namespace Cert.Kernel4Ideal.Inproj

open Cert.Kernel4Ideal

/-- A run whose first sixty-four words are one. -/
theorem run_lower (i : ℕ) :
    lit0t0_0 i = if i % 128 < 64 then 0x3F80#16 else 0x0000#16 := by
  have h : ∀ b : Fin 128, lit0t0_0 b.val = if b.val < 64 then 0x3F80#16 else 0x0000#16 := by
    decide +kernel
  have e : lit0t0_0 i = lit0t0_0 (i % 128) := by unfold lit0t0_0; rw [Nat.mod_mod]
  rw [e]; exact h ⟨i % 128, Nat.mod_lt _ (by norm_num)⟩

/-- A run whose last sixty-four words are one. -/
theorem run_upper (i : ℕ) :
    lit0t0_128 i = if 64 ≤ i % 128 then 0x3F80#16 else 0x0000#16 := by
  have h : ∀ b : Fin 128, lit0t0_128 b.val = if 64 ≤ b.val then 0x3F80#16 else 0x0000#16 := by
    decide +kernel
  have e : lit0t0_128 i = lit0t0_128 (i % 128) := by unfold lit0t0_128; rw [Nat.mod_mod]
  rw [e]; exact h ⟨i % 128, Nat.mod_lt _ (by norm_num)⟩

/-- A run of zeros. -/
theorem run_zero (i : ℕ) : lit0t0_1 i = 0x0000#16 := by
  have h : ∀ b : Fin 128, lit0t0_1 b.val = 0x0000#16 := by decide +kernel
  have e : lit0t0_1 i = lit0t0_1 (i % 128) := by unfold lit0t0_1; rw [Nat.mod_mod]
  rw [e]; exact h ⟨i % 128, Nat.mod_lt _ (by norm_num)⟩

/-- The runs of rows 0–63. -/
theorem rows_0 (i : ℕ) :
    lit0t1_0 i = if i / 128 % 128 % 2 = 0 then lit0t0_0 i else lit0t0_1 i := by
  have hk : i / 128 % 128 < 128 := Nat.mod_lt _ (by norm_num)
  unfold lit0t1_0
  generalize i / 128 % 128 = k at hk ⊢
  interval_cases k <;> rfl

/-- The runs of rows 64–127. -/
theorem rows_1 (i : ℕ) :
    lit0t1_1 i = if i / 128 % 128 % 2 = 0 then lit0t0_128 i else lit0t0_1 i := by
  have hk : i / 128 % 128 < 128 := Nat.mod_lt _ (by norm_num)
  unfold lit0t1_1
  generalize i / 128 % 128 = k at hk ⊢
  interval_cases k <;> rfl

/-- The runs of rows 128–191. -/
theorem rows_2 (i : ℕ) :
    lit0t1_2 i = if i / 128 % 128 % 2 = 0 then lit0t0_1 i else lit0t0_0 i := by
  have hk : i / 128 % 128 < 128 := Nat.mod_lt _ (by norm_num)
  unfold lit0t1_2
  generalize i / 128 % 128 = k at hk ⊢
  interval_cases k <;> rfl

/-- The runs of rows 192–255. -/
theorem rows_3 (i : ℕ) :
    lit0t1_3 i = if i / 128 % 128 % 2 = 0 then lit0t0_1 i else lit0t0_128 i := by
  have hk : i / 128 % 128 < 128 := Nat.mod_lt _ (by norm_num)
  unfold lit0t1_3
  generalize i / 128 % 128 = k at hk ⊢
  interval_cases k <;> rfl

/-- The constant at row `a`, column `b`: one where both lie in the same head of sixty-four
columns, zero elsewhere. -/
theorem lit0_word (a b : Fin 256) (h : a.val * 256 + b.val < 65536) :
    lit0 ⟨a.val * 256 + b.val, h⟩
      = if a.val / 64 = b.val / 64 then 0x3F80#16 else 0x0000#16 := by
  obtain ⟨a, ha⟩ := a
  obtain ⟨b, hb⟩ := b
  have hq : (a * 256 + b) / 16384 = a / 64 := by omega
  have hp : (a * 256 + b) / 128 % 128 % 2 = b / 128 := by omega
  have hr : (a * 256 + b) % 128 = b % 128 := by omega
  have hlt : a / 64 < 4 := by omega
  change lit0t (a * 256 + b) = if a / 64 = b / 64 then 0x3F80#16 else 0x0000#16
  unfold lit0t
  rw [hq]
  generalize a / 64 = q at hlt ⊢
  interval_cases q
  · change lit0t1_0 (a * 256 + b) = _
    rw [rows_0, hp, run_lower, run_zero, hr]
    split_ifs <;> first | rfl | omega
  · change lit0t1_1 (a * 256 + b) = _
    rw [rows_1, hp, run_upper, run_zero, hr]
    split_ifs <;> first | rfl | omega
  · change lit0t1_2 (a * 256 + b) = _
    rw [rows_2, hp, run_lower, run_zero, hr]
    split_ifs <;> first | rfl | omega
  · change lit0t1_3 (a * 256 + b) = _
    rw [rows_3, hp, run_upper, run_zero, hr]
    split_ifs <;> first | rfl | omega

end Cert.Kernel4Ideal.Inproj
end
-- ==== Proof.Inproj.Equation.lean ====
/- What the input projection's grid leaves in its result array is the reference's result. -/
module

public import proofs.«01_k».proof.Proof.Inproj.Column
public import proofs.«01_k».proof.Proof.Inproj.Heads

@[expose] public section

set_option maxRecDepth 16384

noncomputable section

namespace Cert.Kernel4Ideal.Inproj

open Cert.Kernel4Ideal Cert.Kernel4Ideal.Gen Idealize.ShloMosaic Idealize.ShloMosaic.TcCoe Idealize.SL.Sem
open Cert.Common

variable (m : (ℓ : Loc nD τ sig) → Buf (Elt Ideal) ℓ)

/-- The head indicator: one where the two columns lie in the same head of 64. -/
theorem V_grp (c : Dev nD) (a b : Fin 256) (i : (⟨2, ![256, 256]⟩ : Shape).Idx) (ha : (i 0).val = a.val) (hb : (i 1).val = b.val) :
    (V (F := Ideal) m c main_cst : FVec Ideal (⟨2, ![256, 256]⟩ : Shape) .bf16) i
      = if a.val / 64 = b.val / 64 then (1 : EReal) else 0 := by
  have h0 := a.isLt
  have h1 := b.isLt
  unfold V
  after_reads_at
  have e : S256x256.rowMajor i = ⟨a.val * 256 + b.val, by show a.val * 256 + b.val < 65536; omega⟩ :=
    Fin.ext ((Shape.rowMajor_val_two i).trans (by show (i 0).val * 256 + (i 1).val = _; rw [ha, hb]))
  rw [e]
  refine (congrArg (Ideal.ofBits .bf16) (lit0_word a b _)).trans ?_
  by_cases h : a.val / 64 = b.val / 64
  · rw [if_pos h, if_pos h]
    exact Ideal.ofBits_one_bf16
  · rw [if_neg h, if_neg h]
    exact Ideal.ofBits_zero_bf16

/-! The blocks, at the point `t` of the grid: row block `t / 26`, column block `t % 26`. -/

theorem idx0 : ∀ t : Fin cfg0.N, win0_0.index t = ![t.val / 26, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, t.val % 26] := (by decide +kernel : ∀ t : Fin grid0.N, _)
theorem idx3 : ∀ t : Fin cfg0.N, win0_3.index t = ![0, t.val % 26] := (by decide +kernel : ∀ t : Fin grid0.N, _)
theorem idx4 : ∀ t : Fin cfg0.N, win0_4.index t = ![0, t.val % 26] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![t.val / 26, t.val % 26] := (by decide +kernel : ∀ t : Fin grid0.N, _)

theorem in0 (c : Dev nD) (t : Fin cfg0.N) (r : Fin 1024) (d : Fin 1024) :
    iblk m c 0 t (ix2 r d) = at2 (m ((c : Thread nD τ).loc main_arg0)) (1024 * (t.val / 26) + r.val) d.val := by
  unfold iblk
  blk_simp [V_main_arg0 m c]
  refine (at2_of _ _).trans ?_
  congr 1 <;> blk_simp [idx0 t] <;> (try dsimp only) <;> omega

theorem in1 (c : Dev nD) (t : Fin cfg0.N) (d : Fin 1024) :
    iblk m c 1 t (ix2 0 d) = at1 (m ((c : Thread nD τ).loc main_arg1)) d.val := by
  unfold iblk
  blk_simp
  refine (V_gain m c _).trans ?_
  congr 1 <;> blk_simp [idx1 t] <;> (try dsimp only) <;> omega

theorem in2 (c : Dev nD) (t : Fin cfg0.N) (k : Fin 1024) (x : Fin 256) :
    iblk m c 2 t (ix2 k x) = wcol (m ((c : Thread nD τ).loc main_arg2)) k.val (256 * (t.val % 26) + x.val) := by
  unfold iblk
  blk_simp
  refine (V_w m c _).trans ?_
  congr 1 <;> blk_simp [idx2 t] <;> (try dsimp only) <;> omega

theorem in3 (c : Dev nD) (t : Fin cfg0.N) (x : Fin 256) :
    iblk m c 3 t (ix2 0 x) = scale (m ((c : Thread nD τ).loc main_arg4)) (m ((c : Thread nD τ).loc main_arg5))
      (m ((c : Thread nD τ).loc main_arg6)) (m ((c : Thread nD τ).loc main_arg7)) (256 * (t.val % 26) + x.val) := by
  unfold iblk
  blk_simp
  refine (V_cs m c _).trans ?_
  congr 1 <;> blk_simp [idx3 t] <;> (try dsimp only) <;> omega

theorem in4 (c : Dev nD) (t : Fin cfg0.N) (x : Fin 256) :
    iblk m c 4 t (ix2 0 x) = bias (m ((c : Thread nD τ).loc main_arg3)) (256 * (t.val % 26) + x.val) := by
  unfold iblk
  blk_simp
  refine (V_cb m c _).trans ?_
  congr 1 <;> blk_simp [idx4 t] <;> (try dsimp only) <;> omega

theorem in5 (c : Dev nD) (t : Fin cfg0.N) (a b : Fin 256) :
    iblk m c 5 t (ix2 a b) = if a.val / 64 = b.val / 64 then (1 : EReal) else 0 := by
  unfold iblk
  blk_simp
  refine V_grp m c a b _ ?_ ?_ <;> blk_simp [idx5 t]

/-- A scratch that holds normalised rows, times a block of the weights, is the kernel's projection. -/
theorem acc_eq (H : FVec Ideal (⟨2, ![33792, 1024]⟩ : Shape) .f32) (g : FVec Ideal (⟨1, ![1024]⟩ : Shape) .f32)
    (W : FVec Ideal (⟨2, ![1024, 6440]⟩ : Shape) .f32) (R : Fin 1024 → ℕ) (C : ℕ) (u : FVec Ideal S1024x1024 .bf16)
    (w : FVec Ideal S1024x256 .bf16) (hu : ∀ r k : Fin 1024, u (ix2 r k) = nrm H g (R r) k.val)
    (hw : ∀ (k : Fin 1024) (x : Fin 256), w (ix2 k x) = wcol W k.val (C + x.val)) (r : Fin 1024) (x : Fin 256) :
    acc u w r x = kz H g W (R r) (C + x.val) := by
  unfold acc kz
  simp only [hu, hw]

/-- The scratch that the first point of a row block stores. -/
theorem scr_eq (c : Dev nD) (t : Fin cfg0.N) (r k : Fin 1024) :
    k0_pay1 (F := Ideal) (iblk m c 0 t) (iblk m c 1 t) (ix2 r k)
      = nrm (m ((c : Thread nD τ).loc main_arg0)) (m ((c : Thread nD τ).loc main_arg1)) (1024 * (t.val / 26) + r.val) k.val := by
  rw [p1]
  unfold nrm
  simp only [in0, in1]

/-- THE SCRATCH after every point: the normalised rows of the point's row block. -/
theorem inv_all (c : Dev nD) : ∀ (n : ℕ) (hn : n < cfg0.N) (r k : Fin 1024), (outsAt0 m c n hn).2 (ix2 r k)
    = nrm (m ((c : Thread nD τ).loc main_arg0)) (m ((c : Thread nD τ).loc main_arg1)) (1024 * (n / 26) + r.val) k.val := by
  have first : ∀ (t : Fin cfg0.N) (h0 : t.val % 26 = 0) (r k : Fin 1024), (outsAt0 m c t.val t.isLt).2 (ix2 r k)
      = nrm (m ((c : Thread nD τ).loc main_arg0)) (m ((c : Thread nD τ).loc main_arg1)) (1024 * (t.val / 26) + r.val) k.val := fun t h0 r k => by
    rw [outsAt0_A m c t h0 (by omega) (by omega) (by omega)]
    dsimp only
    rw [scrA]
    exact scr_eq m c t r k
  have keep : ∀ (t : Fin cfg0.N) (h0 : ¬t.val % 26 = 0), (outsAt0 m c t.val t.isLt).2
      = (outsAt0 m c (t.val - 1) (Nat.lt_of_le_of_lt (Nat.sub_le _ _) t.isLt)).2 := fun t h0 => by
    by_cases h1 : t.val % 26 ≤ 11
    · rw [outsAt0_B m c t h0 h1 (by omega) (by omega)]
      rfl
    · by_cases h2 : (t.val % 26 = 15 ∨ t.val % 26 = 16 ∨ t.val % 26 = 20 ∨ t.val % 26 = 21 ∨ t.val % 26 = 22 ∨ t.val % 26 = 23)
      · rw [outsAt0_D m c t h0 h1 h2 (by omega)]
        rfl
      · rw [outsAt0_C m c t h0 h1 h2 (by omega)]
        rfl
  intro n
  induction n with
  | zero => exact fun hn r k => first ⟨0, hn⟩ rfl r k
  | succ n ih =>
    intro hn r k
    by_cases h0 : (n + 1) % 26 = 0
    · exact first ⟨n + 1, hn⟩ h0 r k
    · refine (congrFun (keep ⟨n + 1, hn⟩ h0) _).trans ?_
      refine (ih (Nat.lt_of_succ_lt hn) r k).trans ?_
      rw [show (n + 1) / 26 = n / 26 by omega]

/-- THE RESULT ARRAY: what the kernel leaves is the reference's result. -/
theorem final (c : Dev nD) :
    (dats m 0 c).arrAt 6 cfg0.N = Cert.Reference4Ideal.Read.val_main_v103 (F := Ideal) (m ((c : Thread nD τ).loc main_arg0))
      (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6))
      (m ((c : Thread nD τ).loc main_arg7)) := by
  refine (dats m 0 c).arrAt_eq_of_covers 6 _ (by decide +kernel) fun t hf y => ?_
  blk_simp
  rw [after0_6]
  obtain ⟨r, x, rfl⟩ := exists_ix2 (R := 1024) (C := 256) y
  refine Eq.trans ?_ (ref_lay (R := 1024 * (t.val / 26) + r.val) (C := 256 * (t.val % 26) + x.val) (hR := ?_) (hC := ?_) ..).symm
  · have hx := x.isLt
    have hu := inv_all m c (t.val - 1) (Nat.lt_of_le_of_lt (Nat.sub_le _ _) t.isLt)
    by_cases h0 : t.val % 26 = 0
    · rw [outsAt0_A m c t h0 (by omega) (by omega) (by omega)]
      dsimp only
      refine (outA (r := r) (x := x) ..).trans ?_
      rw [acc_eq _ _ _ (fun r => 1024 * (t.val / 26) + r.val) _ _ _ (scr_eq m c t) (in2 m c t), in4 m c t]
      exact gate_col _ _ _ _ _ _ _ _ _ _ (by omega)
    rw [show (t.val - 1) / 26 = t.val / 26 by omega] at hu
    by_cases h1 : t.val % 26 ≤ 11
    · rw [outsAt0_B m c t h0 h1 (by omega) (by omega)]
      dsimp only
      refine (outB (r := r) (x := x) ..).trans ?_
      rw [acc_eq _ _ _ (fun r => 1024 * (t.val / 26) + r.val) _ _ _ hu (in2 m c t), in4 m c t]
      exact gate_col _ _ _ _ _ _ _ _ _ _ (by omega)
    by_cases h2 : (t.val % 26 = 15 ∨ t.val % 26 = 16 ∨ t.val % 26 = 20 ∨ t.val % 26 = 21 ∨ t.val % 26 = 22 ∨ t.val % 26 = 23)
    · rw [outsAt0_D m c t h0 h1 h2 (by omega)]
      dsimp only
      refine (outD (r := r) (x := x) ..).trans ?_
      simp only [acc_eq _ _ _ (fun r => 1024 * (t.val / 26) + r.val) _ _ _ hu (in2 m c t), in3 m c t, in5 m c t]
      exact norm_col _ _ _ _ _ _ _ _ _ _ _ hx h2
    · rw [outsAt0_C m c t h0 h1 h2 (by omega)]
      dsimp only
      refine (outC (r := r) (x := x) ..).trans ?_
      rw [acc_eq _ _ _ (fun r => 1024 * (t.val / 26) + r.val) _ _ _ hu (in2 m c t), in3 m c t]
      exact plain_col _ _ _ _ _ _ _ _ _ _ (by omega)
  · blk_simp [idx6 t]
    omega
  · blk_simp [idx6 t]
    omega

end Cert.Kernel4Ideal.Inproj

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_finite
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Sb.Equation
public import proofs.«01_k».proof.Proof.Ffn.Equation
public import proofs.«01_k».proof.Proof.Merge.Equation
public import proofs.«01_k».proof.Proof.Inproj.Equation
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The stick-breaking reference's frame: host operations alone own no semaphore. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m ρ)

/-- The stick-breaking kernel and its reference compute one function over the extended reals. -/
theorem sb [Cert.Pre_finite.Facts] : Cert.algebraic_KernelIdeal_ReferenceIdeal_pre_finite (hKernelIdeal := Cert.KernelIdeal.Gen.facts)
    (hReferenceIdeal := Cert.ReferenceIdeal.Gen.facts) := by
  pair_intro
  · run_from Cert.KernelIdeal.Value.run_blocks m g
  · run_from Cert.ReferenceIdeal.Value.run m' g'
    rw [Cert.ReferenceIdeal.Read.val_main_v27_eq]
    rw [Cert.KernelIdeal.Sb.final m c (Cert.KernelIdeal.Sb.real_of_pre _ (hpre c))]
    exact congrArg _ (hagree c)

/-- The feed-forward reference's frame. -/
theorem reference2_frame (m : (ℓ : Loc Cert.Reference2Ideal.nD Cert.Reference2Ideal.τ Cert.Reference2Ideal.sig) → Buf (Elt Ideal) ℓ)
    (ρ : Dev Cert.Reference2Ideal.nD → PrngReg) :
    θ_run (Cert.Reference2Ideal.defs (F := Ideal)) (onTc (τ := Cert.Reference2Ideal.τ) (Cert.Reference2Ideal.main (F := Ideal))) ⟨m, fun _ => 0, ρ⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0) :=
  (θ_run Cert.Reference2Ideal.defs _ _).mono (fun r h => ⟨fun c => (h c).2, sem_eq_zero_of_no_sems (by decide) r.2⟩)
    (Cert.Reference2Ideal.Value.run (F := Ideal) m ρ)

/-- The branch merge reference's frame. -/
theorem reference3_frame (m : (ℓ : Loc Cert.Reference3Ideal.nD Cert.Reference3Ideal.τ Cert.Reference3Ideal.sig) → Buf (Elt Ideal) ℓ)
    (ρ : Dev Cert.Reference3Ideal.nD → PrngReg) :
    θ_run (Cert.Reference3Ideal.defs (F := Ideal)) (onTc (τ := Cert.Reference3Ideal.τ) (Cert.Reference3Ideal.main (F := Ideal))) ⟨m, fun _ => 0, ρ⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0) :=
  (θ_run Cert.Reference3Ideal.defs _ _).mono (fun r h => ⟨fun c => (h c).2, sem_eq_zero_of_no_sems (by decide) r.2⟩)
    (Cert.Reference3Ideal.Value.run (F := Ideal) m ρ)

/-- The input projection reference's frame. -/
theorem reference4_frame (m : (ℓ : Loc Cert.Reference4Ideal.nD Cert.Reference4Ideal.τ Cert.Reference4Ideal.sig) → Buf (Elt Ideal) ℓ)
    (ρ : Dev Cert.Reference4Ideal.nD → PrngReg) :
    θ_run (Cert.Reference4Ideal.defs (F := Ideal)) (onTc (τ := Cert.Reference4Ideal.τ) (Cert.Reference4Ideal.main (F := Ideal))) ⟨m, fun _ => 0, ρ⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0) :=
  (θ_run Cert.Reference4Ideal.defs _ _).mono (fun r h => ⟨fun c => (h c).2, sem_eq_zero_of_no_sems (by decide) r.2⟩)
    (Cert.Reference4Ideal.Value.run (F := Ideal) m ρ)

/-- The feed-forward and its reference compute one function over the extended reals. -/
theorem ffn : Cert.algebraic_Kernel2Ideal_Reference2Ideal (hKernel2Ideal := Cert.Kernel2Ideal.Gen.facts)
    (hReference2Ideal := Cert.Reference2Ideal.Gen.facts) := by
  pair_intro
  · run_from Cert.Kernel2Ideal.Value.run_blocks m g
  · run_from Cert.Reference2Ideal.Value.run m' g'
    rw [Cert.Reference2Ideal.Read.val_main_v47_eq]
    rw [Cert.Kernel2Ideal.Ffn.final m c]
    obtain ⟨h0, h1, h2, h3, h4, h5⟩ := hagree c
    rw [h0, h1, h2, h3, h4, h5]

/-- The merge of the branches and its reference compute one function over the extended reals. -/
theorem merge : Cert.algebraic_Kernel3Ideal_Reference3Ideal (hKernel3Ideal := Cert.Kernel3Ideal.Gen.facts)
    (hReference3Ideal := Cert.Reference3Ideal.Gen.facts) := by
  pair_intro
  · run_from Cert.Kernel3Ideal.Value.run_blocks m g
  · run_from Cert.Reference3Ideal.Value.run m' g'
    rw [Cert.Reference3Ideal.Read.val_main_v18_eq]
    rw [Cert.Kernel3Ideal.Merge.final m c]

/-- The input projection and its reference compute one function over the extended reals. -/
theorem inproj : Cert.algebraic_Kernel4Ideal_Reference4Ideal (hKernel4Ideal := Cert.Kernel4Ideal.Gen.facts)
    (hReference4Ideal := Cert.Reference4Ideal.Gen.facts) := by
  pair_intro
  · run_from Cert.Kernel4Ideal.Value.run_blocks m g
  · run_from Cert.Reference4Ideal.Value.run m' g'
    rw [Cert.Reference4Ideal.Read.val_main_v103_eq]
    rw [Cert.Kernel4Ideal.Inproj.final m c]
    obtain ⟨h0, h1, h2, h3, h4, h5, h6, h7⟩ := hagree c
    rw [h0, h1, h2, h3, h4, h5, h6, h7]

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Pre_finite.Gen.facts,
  fun m ρ _ => Cert.Kernel.Gen.frame m ρ, fun m ρ _ => Cert.KernelIdeal.Gen.frame m ρ, fun m ρ _ => Cert.KernelIdeal.Gen.frame m ρ, fun m ρ _ => reference_frame m ρ, fun m ρ _ => reference_frame m ρ,
  fun m ρ _ => Cert.Kernel2.Gen.frame m ρ, fun m ρ _ => Cert.Kernel2Ideal.Gen.frame m ρ, fun m ρ _ => reference2_frame m ρ,
  fun m ρ _ => Cert.Kernel3.Gen.frame m ρ, fun m ρ _ => Cert.Kernel3Ideal.Gen.frame m ρ, fun m ρ _ => reference3_frame m ρ,
  fun m ρ _ => Cert.Kernel4.Gen.frame m ρ, fun m ρ _ => Cert.Kernel4Ideal.Gen.frame m ρ, fun m ρ _ => reference4_frame m ρ,
  trivial, sb, trivial, ffn, trivial, merge, trivial, inproj⟩

end Cert.Proof

end
